-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16x512x512 : Shape := ⟨3, ![16, 512, 512]⟩
abbrev S1600x1 : Shape := ⟨2, ![1600, 1]⟩
abbrev S_ : Shape := ⟨0, ![]⟩

class Facts : Prop where
  bcast_S_S1600x1 : S_.BroadcastsInDim S1600x1 (![] : Fin 0 → Fin S1600x1.rank)
  reducesTo_S1600x1_S_d0_1 : S1600x1.ReducesTo [0, 1] S_
  h_S_ : 0 < S_.numel

variable [Facts]

def fn {F : FTy → Type} [FloatOps F] (main_arg0 : FVec F S16x512x512 .f32) (main_arg1 : IVec S1600x1 32) (main_arg2 : IVec S1600x1 32) (main_arg3 : IVec S1600x1 1) : IVec S_ 1 :=
  let main_c : IVec S_ 32 := constantI S_ 32 0#32
  let main_v0 : IVec S1600x1 32 := broadcastInDim S1600x1 ![] bcast_S_S1600x1 main_c
  let main_v1 : IVec S1600x1 1 := cmpi .sge main_arg1 main_v0
  let main_c_0 : IVec S_ 1 := constantI S_ 1 1#1
  let main_v2 : IVec S_ 1 := (fun x v => Host.reduce IntOp.andi x v reducesTo_S1600x1_S_d0_1 h_S_) main_v1 main_c_0
  let main_c_1 : IVec S_ 32 := constantI S_ 32 8192#32
  let main_v3 : IVec S1600x1 32 := broadcastInDim S1600x1 ![] bcast_S_S1600x1 main_c_1
  let main_v4 : IVec S1600x1 1 := cmpi .slt main_arg1 main_v3
  let main_c_2 : IVec S_ 1 := constantI S_ 1 1#1
  let main_v5 : IVec S_ 1 := (fun x v => Host.reduce IntOp.andi x v reducesTo_S1600x1_S_d0_1 h_S_) main_v4 main_c_2
  let main_v6 : IVec S_ 1 := andi main_v2 main_v5
  let main_c_3 : IVec S_ 32 := constantI S_ 32 0#32
  let main_v7 : IVec S1600x1 32 := broadcastInDim S1600x1 ![] bcast_S_S1600x1 main_c_3
  let main_v8 : IVec S1600x1 1 := cmpi .sge main_arg2 main_v7
  let main_c_4 : IVec S_ 1 := constantI S_ 1 1#1
  let main_v9 : IVec S_ 1 := (fun x v => Host.reduce IntOp.andi x v reducesTo_S1600x1_S_d0_1 h_S_) main_v8 main_c_4
  let main_v10 : IVec S_ 1 := andi main_v6 main_v9
  let main_c_5 : IVec S_ 32 := constantI S_ 32 512#32
  let main_v11 : IVec S1600x1 32 := broadcastInDim S1600x1 ![] bcast_S_S1600x1 main_c_5
  let main_v12 : IVec S1600x1 1 := cmpi .slt main_arg2 main_v11
  let main_c_6 : IVec S_ 1 := constantI S_ 1 1#1
  let main_v13 : IVec S_ 1 := (fun x v => Host.reduce IntOp.andi x v reducesTo_S1600x1_S_d0_1 h_S_) main_v12 main_c_6
  let main_v14 : IVec S_ 1 := andi main_v10 main_v13
  main_v14
-- ==== Kernel.lean ====
abbrev S16x512x512 : Shape := ⟨3, ![16, 512, 512]⟩
abbrev S1600x1 : Shape := ⟨2, ![1600, 1]⟩
abbrev S4194304 : Shape := ⟨1, ![4194304]⟩
abbrev S1600 : Shape := ⟨1, ![1600]⟩
abbrev S64 : Shape := ⟨1, ![64]⟩
abbrev S_ : Shape := ⟨0, ![]⟩
abbrev S16 : Shape := ⟨1, ![16]⟩
abbrev S16x50x2 : Shape := ⟨3, ![16, 50, 2]⟩

abbrev nBuf : Table → Nat
  | .hbm => 11
  | .local .scVector .vmem => 5
  | _ => 0

abbrev bufTy : (tb : Table) → Fin (nBuf tb) → BufTy
  | .hbm, ⟨0, _⟩ => ⟨S16x512x512, .f32⟩
  | .hbm, ⟨1, _⟩ => ⟨S1600x1, .i32⟩
  | .hbm, ⟨2, _⟩ => ⟨S1600x1, .i32⟩
  | .hbm, ⟨3, _⟩ => ⟨S1600x1, .i1⟩
  | .hbm, ⟨4, _⟩ => ⟨S4194304, .f32⟩
  | .hbm, ⟨5, _⟩ => ⟨S1600, .i32⟩
  | .hbm, ⟨6, _⟩ => ⟨S1600, .i32⟩
  | .hbm, ⟨7, _⟩ => ⟨S1600, .i1⟩
  | .hbm, ⟨8, _⟩ => ⟨S1600, .i32⟩
  | .hbm, ⟨9, _⟩ => ⟨S1600, .f32⟩
  | .hbm, ⟨10, _⟩ => ⟨S16x50x2, .f32⟩
  | .local .scVector .vmem, ⟨0, _⟩ => ⟨S64, .i32⟩
  | .local .scVector .vmem, ⟨1, _⟩ => ⟨S64, .i32⟩
  | .local .scVector .vmem, ⟨2, _⟩ => ⟨S64, .i32⟩
  | .local .scVector .vmem, ⟨3, _⟩ => ⟨S64, .i32⟩
  | .local .scVector .vmem, ⟨4, _⟩ => ⟨S64, .f32⟩
  | _, _ => ⟨S16x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev main_v4_scv : Ref sig .scVector := ⟨.hbm, 8, rfl⟩
abbrev main_v5_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v2 : BitVec 1 := Scalar.cmpi .slt v1 c25_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v5 : BitVec 32 := Scalar.muli v1 c64_i32
  ![v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x512x512 : Shape := ⟨3, ![16, 512, 512]⟩
abbrev S1600x1 : Shape := ⟨2, ![1600, 1]⟩
abbrev S8192x512 : Shape := ⟨2, ![8192, 512]⟩
abbrev S_ : Shape := ⟨0, ![]⟩
abbrev S1600x1x1 : Shape := ⟨3, ![1600, 1, 1]⟩
abbrev S1600x1x2 : Shape := ⟨3, ![1600, 1, 2]⟩
abbrev S16x50x2 : Shape := ⟨3, ![16, 50, 2]⟩

abbrev nBuf : Space → Nat
  | .hbm => 27
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S1600x1, .i32⟩
  | .hbm, ⟨2, _⟩ => ⟨S1600x1, .i32⟩
  | .hbm, ⟨3, _⟩ => ⟨S1600x1, .i1⟩
  | .hbm, ⟨4, _⟩ => ⟨S8192x512, .f32⟩
  | .hbm, ⟨5, _⟩ => ⟨S_, .i32⟩
  | .hbm, ⟨6, _⟩ => ⟨S1600x1, .i32⟩
  | .hbm, ⟨7, _⟩ => ⟨S1600x1, .i1⟩
  | .hbm, ⟨8, _⟩ => ⟨S_, .i32⟩
  | .hbm, ⟨9, _⟩ => ⟨S1600x1, .i32⟩
  | .hbm, ⟨10, _⟩ => ⟨S1600x1, .i32⟩
  | .hbm, ⟨11, _⟩ => ⟨S1600x1, .i32⟩
  | .hbm, ⟨12, _⟩ => ⟨S_, .i32⟩
  | .hbm, ⟨13, _⟩ => ⟨S1600x1, .i32⟩
  | .hbm, ⟨14, _⟩ => ⟨S1600x1, .i1⟩
  | .hbm, ⟨15, _⟩ => ⟨S_, .i32⟩
  | .hbm, ⟨16, _⟩ => ⟨S1600x1, .i32⟩
  | .hbm, ⟨17, _⟩ => ⟨S1600x1, .i32⟩
  | .hbm, ⟨18, _⟩ => ⟨S1600x1, .i32⟩
  | .hbm, ⟨19, _⟩ => ⟨S1600x1x1, .i32⟩
  | .hbm, ⟨20, _⟩ => ⟨S1600x1x1, .i32⟩
  | .hbm, ⟨21, _⟩ => ⟨S1600x1x2, .i32⟩
  | .hbm, ⟨22, _⟩ => ⟨S1600x1, .f32⟩
  | .hbm, ⟨23, _⟩ => ⟨S_, .f32⟩
  | .hbm, ⟨24, _⟩ => ⟨S1600x1, .f32⟩
  | .hbm, ⟨25, _⟩ => ⟨S1600x1, .f32⟩
  | .hbm, ⟨26, _⟩ => ⟨S16x50x2, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.KernelIdealTile.lean ====
/-
  The kernel `cc0_body` on one vector subcore. The 1600 results are cut into 25 runs of 64; subcore `2 * i + c` (`i` its
  number on SparseCore `c`) takes run `2 * i + c`, and the subcores numbered 25 and up do nothing. A working subcore
  fetches its 64 row numbers, column numbers and mask words, forms the 64 flat positions `row * 512 + column`, gathers
  the table's elements at them, puts zero where the mask word is non-zero, and writes its run of the result out. The
  theorem at the end (`subcore_task`) says so with the values: whatever the five arrays hold, as long as every flat position is
  in the table, the subcore's run of the result holds `picked` there.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch: the call's configuration and the ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-! ## The arrays, as the subcores and as @main name them -/

abbrev tabLoc (d : Dev nD) : Loc nD τ sig := (SparseCore.T d).loc main_v0
abbrev rowLoc (d : Dev nD) : Loc nD τ sig := (SparseCore.T d).loc main_v1
abbrev colLoc (d : Dev nD) : Loc nD τ sig := (SparseCore.T d).loc main_v2
abbrev mskLoc (d : Dev nD) : Loc nD τ sig := (SparseCore.T d).loc main_v4
abbrev resLoc (d : Dev nD) : Loc nD τ sig := (SparseCore.T d).loc main_v5

local notation "tabV" => (Memref.whole Cert.KernelIdeal.main_v0_scv : Memref Cert.KernelIdeal.sig Kind.scVector Space.hbm Cert.KernelIdeal.S4194304 EltTy.f32)
local notation "rowV" => (Memref.whole Cert.KernelIdeal.main_v1_scv : Memref Cert.KernelIdeal.sig Kind.scVector Space.hbm Cert.KernelIdeal.S1600 EltTy.i32)
local notation "colV" => (Memref.whole Cert.KernelIdeal.main_v2_scv : Memref Cert.KernelIdeal.sig Kind.scVector Space.hbm Cert.KernelIdeal.S1600 EltTy.i32)
local notation "mskV" => (Memref.whole Cert.KernelIdeal.main_v4_scv : Memref Cert.KernelIdeal.sig Kind.scVector Space.hbm Cert.KernelIdeal.S1600 EltTy.i32)
local notation "resV" => (Memref.whole Cert.KernelIdeal.main_v5_scv : Memref Cert.KernelIdeal.sig Kind.scVector Space.hbm Cert.KernelIdeal.S1600 EltTy.f32)
local notation "rowS" => (Memref.whole Cert.KernelIdeal.cc0_scratch0 : Memref Cert.KernelIdeal.sig Kind.scVector Space.vmem Cert.KernelIdeal.S64 EltTy.i32)
local notation "colS" => (Memref.whole Cert.KernelIdeal.cc0_scratch1 : Memref Cert.KernelIdeal.sig Kind.scVector Space.vmem Cert.KernelIdeal.S64 EltTy.i32)
local notation "mskS" => (Memref.whole Cert.KernelIdeal.cc0_scratch2 : Memref Cert.KernelIdeal.sig Kind.scVector Space.vmem Cert.KernelIdeal.S64 EltTy.i32)
local notation "posS" => (Memref.whole Cert.KernelIdeal.cc0_scratch3 : Memref Cert.KernelIdeal.sig Kind.scVector Space.vmem Cert.KernelIdeal.S64 EltTy.i32)
local notation "valS" => (Memref.whole Cert.KernelIdeal.cc0_scratch4 : Memref Cert.KernelIdeal.sig Kind.scVector Space.vmem Cert.KernelIdeal.S64 EltTy.f32)

/-! ## The value the kernel computes -/

/-- The flat position of the element in row `r`, column `c` of a table of 512 columns, as the kernel's 32-bit words
    compute it. -/
def posWord (r c : BitVec 32) : BitVec 32 := r * 512#32 + c

/-- A word as an index of the table: its value, if that is below the table's length. -/
def tabIx (w : BitVec 32) : S4194304.Idx := fun | 0 => (⟨w.toNat % 4194304, Nat.mod_lt _ (by decide)⟩ : Fin 4194304)

variable [FloatOps F]

/-- The kernel's result, element by element: zero where the mask word is non-zero, elsewhere the table's element at the
    row and column the two index arrays name. -/
def picked (x : S4194304.Idx → F .f32) (r c k : S1600.Idx → BitVec 32) (j : S1600.Idx) : F .f32 :=
  if k j = 0#32 then x (tabIx (posWord (r j) (c j))) else Scalar.ofBits .f32 0x00000000#32

/-! ## One subcore's part -/

/-- The number of the subcore `i` on SparseCore `c`, and of the run of results it takes. -/
def runNo (c : Fin 2) (i : Fin 16) : Fin 32 := ⟨2 * i.val + c.val, by omega⟩

/-- The result positions of run `w`: `64 * w` up to `64 * w + 63`, none at all from run 25 on. -/
def runSet (w : Fin 32) : Finset S1600.Idx := Finset.univ.filter fun j => (j 0).val / 64 = w.val

/-- The share of each array read that subcore number `w` holds: one of the full share's 32 leaves. -/
abbrev rdShare (w : Fin 32) : PosShare TreeShare := ShareLeaves.leaf 5 fullShare w

section Tile

variable (d : Dev nD) (L : grid0.Coords)

abbrev cV (L : grid0.Coords) : Fin τ.nSC := (L 0).castLE hcore0
abbrev jV (L : grid0.Coords) : Fin τ.nSub := (L 1).castLE hsub0
/-- The grid has two SparseCores. -/
theorem bound_cores : grid0.bound 0 = 2 := rfl
/-- The grid has sixteen subcores on each. -/
theorem bound_subs : grid0.bound 1 = 16 := rfl
abbrev wL (L : grid0.Coords) : Fin 32 := runNo (Fin.cast bound_cores (L 0)) (Fin.cast bound_subs (L 1))

/-- Where a working subcore's run starts in the arrays of 1600. -/
abbrev runRect (L : grid0.Coords) (h : k0_cond1 L = 1#1) : Rect S1600 := Rect.unit (s := S1600) (k0_off1 L) S64.size (k0_off1_inb L h)

abbrev semA (L : grid0.Coords) (d : Dev nD) : GSem nD τ sig := (V d (cV L) (jV L), .dma cc0_scoped0.sem)
abbrev semB (L : grid0.Coords) (d : Dev nD) : GSem nD τ sig := (V d (cV L) (jV L), .dma cc0_scoped1.sem)
abbrev semC (L : grid0.Coords) (d : Dev nD) : GSem nD τ sig := (V d (cV L) (jV L), .dma cc0_scoped2.sem)
abbrev semE (L : grid0.Coords) (d : Dev nD) : GSem nD τ sig := (V d (cV L) (jV L), .dma cc0_scoped3.sem)
abbrev semG (L : grid0.Coords) (d : Dev nD) : GSem nD τ sig := (V d (cV L) (jV L), .dma cc0_scratch5.sem)

omit [FloatOps F] in
/-- A working subcore's number is below 25. -/
theorem working_iff : (k0_cond1 L = 1#1) ↔ (wL L).val < 25 := by
  have hb : ∀ (a : Fin 2) (b : Fin 16),
      (Scalar.cmpi .ne (Scalar.extui (Scalar.cmpi .slt (Scalar.addi (Scalar.muli (BitVec.ofNat 32 b.val) 2#32) (BitVec.ofNat 32 a.val)) 25#32) : BitVec 32) 0#32 = 1#1)
        ↔ 2 * b.val + a.val < 25 := by decide
  exact hb (L 0) (L 1)

omit [FloatOps F] in
/-- A working subcore's window on an array of 1600 is its run's positions. -/
theorem mem_runSet_iff (h : k0_cond1 L = 1#1) (j : S1600.Idx) : j ∈ (runRect L h).set ↔ j ∈ runSet (wL L) := by
  unfold runRect runSet
  rw [Rect.mem_set_unit, Finset.mem_filter]
  simp only [k0_off1_eq, Finset.mem_univ, true_and]
  have h0 : (wL L).val = 2 * (L 1).val + (L 0).val := rfl
  constructor
  · intro hj
    have := hj 0
    simp at this
    omega
  · intro hj a
    match a with
    | 0 => simp; omega

omit [FloatOps F] in
/-- The slice of the result that a working subcore writes is its run. -/
theorem set_window (h : k0_cond1 L = 1#1) : ((resV).slice (runRect L h) (fun _ => rfl)).view.set = runSet (wL L) := by
  show ((View.whole (main_v5_scv : Ref sig .scVector)).slice (runRect L h)).set = _
  rw [View.set_slice]
  refine Finset.map_refl.trans ?_
  ext j; exact mem_runSet_iff L h j

omit [FloatOps F] in
/-- Holding that slice of the result is holding the run. -/
theorem pts_window (h : k0_cond1 L = 1#1) (f : Buf (Elt F) (resLoc d)) :
    (((resV).slice (runRect L h) (fun _ => rfl)).view.loc (V d (cV L) (jV L)) ↦[((resV).slice (runRect L h) (fun _ => rfl)).view.set]{fullShare} f : sProp 𝕄)
      = resLoc d ↦[runSet (wL L)]{fullShare} f := by
  rw [set_window]

/-- What a subcore holds during its task: its share of the four arrays read, and its run of the result. -/
abbrev part (d : Dev nD) (w : Fin 32) (x : Buf (Elt F) (tabLoc d)) (r : Buf (Elt F) (rowLoc d)) (c : Buf (Elt F) (colLoc d)) (k : Buf (Elt F) (mskLoc d))
    (o : Buf (Elt F) (resLoc d)) : sProp 𝕄 :=
  iprop((tabLoc d ↦{rdShare w} x) ∗ (rowLoc d ↦{rdShare w} r) ∗ (colLoc d ↦{rdShare w} c) ∗ (mskLoc d ↦{rdShare w} k) ∗ resLoc d ↦[runSet w]{fullShare} o)

omit [FloatOps F] in
/-- The five transfers' semaphores are among the subcore's own. -/
theorem ownSems0_V :
    (ownSems0 (V d (cV L) (jV L)) : sProp 𝕄)
      = iprop(semVal (semA L d) 0 ∗ semVal (semB L d) 0 ∗ semVal (semC L d) 0 ∗ semVal (semE L d) 0 ∗ semVal (semG L d) 0
          ∗ bigSep ((((((ownCells (V d (cV L) (jV L))).erase (semA L d)).erase (semB L d)).erase (semC L d)).erase (semE L d)).erase (semG L d)) fun g => semVal g 0) := by
  have own : ∀ s : DmaSem sig, (SemLoc.dma s : SemLoc sig).isScoped .scVector = true → ((V d (cV L) (jV L), .dma s) : GSem nD τ sig) ∈ ownCells (V d (cV L) (jV L)) :=
    fun s hs => mem_ownCells.mpr ⟨rfl, hs⟩
  have ne : ∀ s s' : DmaSem sig, s ≠ s' → ((V d (cV L) (jV L), .dma s) : GSem nD τ sig) ≠ (V d (cV L) (jV L), .dma s') :=
    fun s s' hs e => hs (SemLoc.dma.inj (Prod.mk.inj e).2)
  unfold SparseCore.Cfg.ownSems0
  rw [SparseCore.bigSep_erase' (own cc0_scoped0.sem (by decide)),
    SparseCore.bigSep_erase' (Finset.mem_erase.mpr ⟨ne _ _ (by decide), own cc0_scoped1.sem (by decide)⟩),
    SparseCore.bigSep_erase' (Finset.mem_erase.mpr ⟨ne _ _ (by decide), Finset.mem_erase.mpr ⟨ne _ _ (by decide), own cc0_scoped2.sem (by decide)⟩⟩),
    SparseCore.bigSep_erase' (Finset.mem_erase.mpr ⟨ne _ _ (by decide), Finset.mem_erase.mpr ⟨ne _ _ (by decide),
      Finset.mem_erase.mpr ⟨ne _ _ (by decide), own cc0_scoped3.sem (by decide)⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), own cc0_scratch5.sem (by decide)⟩⟩⟩⟩)]

abbrev bufRef (L : grid0.Coords) (b : Ref sig .scVector) : DevRef τ sig := (Proc.scVector (cV L) (jV L)).devRef b

omit [FloatOps F] in
/-- The five scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase (bufRef L cc0_scratch0)).erase (bufRef L cc0_scratch1)).erase
              (bufRef L cc0_scratch2)).erase (bufRef L cc0_scratch3)).erase (bufRef L cc0_scratch4))
              fun b => iprop(∃ f, ((d, b) : Loc nD τ sig) ↦{fullShare} f)) := by
  have own : ∀ b : Ref sig .scVector, (bufRef L b).owner = .proc (Proc.scVector (cV L) (jV L)) → bufRef L b ∈ ownRefs (τ := τ) (.scVector (cV L) (jV L)) :=
    fun b hb => SparseCore.Cfg.mem_ownRefs_of_owner hb
  have ne : ∀ b b' : Ref sig .scVector, b ≠ b' → bufRef L b ≠ bufRef L b' := fun b b' hb e => hb (Proc.devRef_injective _ e)
  unfold SparseCore.Cfg.ownBufs
  refine (SparseCore.bigSep_erase' (own cc0_scratch0 rfl)).trans ?_
  rw [SparseCore.bigSep_erase' (Finset.mem_erase.mpr ⟨ne _ _ (by decide), own cc0_scratch1 rfl⟩),
    SparseCore.bigSep_erase' (Finset.mem_erase.mpr ⟨ne _ _ (by decide), Finset.mem_erase.mpr ⟨ne _ _ (by decide), own cc0_scratch2 rfl⟩⟩),
    SparseCore.bigSep_erase' (Finset.mem_erase.mpr ⟨ne _ _ (by decide), Finset.mem_erase.mpr ⟨ne _ _ (by decide),
      Finset.mem_erase.mpr ⟨ne _ _ (by decide), own cc0_scratch3 rfl⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), own cc0_scratch4 rfl⟩⟩⟩⟩)]

/-! ## The values on one subcore -/

/-- A buffer of 64 written sixteen lanes at a time, each group of lanes agreeing with one function `G`, reads as `G`. -/
theorem read_groups {kd : Kind} {sp : Space} {e : EltTy} (v : View sig kd sp S64 e) (f : v.ty.Contents (Elt F)) (G : S64.Idx → Elt F e)
    (p0 p1 p2 p3 : S16.Idx → Elt F e)
    (h0 : ∀ x : S16.Idx, p0 x = G ((Rect.unit (s := S64) ![0] S16.size inb_S64_S16_0).emb x))
    (h1 : ∀ x : S16.Idx, p1 x = G ((Rect.unit (s := S64) ![16] S16.size inb_S64_S16_16).emb x))
    (h2 : ∀ x : S16.Idx, p2 x = G ((Rect.unit (s := S64) ![32] S16.size inb_S64_S16_32).emb x))
    (h3 : ∀ x : S16.Idx, p3 x = G ((Rect.unit (s := S64) ![48] S16.size inb_S64_S16_48).emb x)) (y : S64.Idx) :
    v.read (Elt F) (v.writes (Elt F) f
      [⟨Rect.unit (s := S64) ![48] S16.size inb_S64_S16_48, p3⟩, ⟨Rect.unit (s := S64) ![32] S16.size inb_S64_S16_32, p2⟩,
        ⟨Rect.unit (s := S64) ![16] S16.size inb_S64_S16_16, p1⟩, ⟨Rect.unit (s := S64) ![0] S16.size inb_S64_S16_0, p0⟩]) y = G y := by
  refine View.read_writes_apply_of_pieces v f G _ ?_ y ?_
  · exact List.forall_mem_cons.2 ⟨h3, List.forall_mem_cons.2 ⟨h2, List.forall_mem_cons.2 ⟨h1, List.forall_mem_cons.2 ⟨h0, fun p hp => absurd hp List.not_mem_nil⟩⟩⟩⟩
  · have hy : (y 0).val < 64 := (y 0).isLt
    have mem : ∀ (n : ℕ) (hn : ∀ a, (![n] : Fin 1 → ℕ) a + S16.size a ≤ S64.size a), n ≤ (y 0).val → (y 0).val < n + 16 →
        y ∈ (Rect.unit (s := S64) ![n] S16.size hn).set := by
      intro n hn h1 h2
      rw [Rect.mem_set_unit]
      intro a
      match a with
      | 0 => exact ⟨h1, h2⟩
    rcases Nat.lt_or_ge (y 0).val 16 with h | h
    · exact ⟨_, List.mem_cons_of_mem _ (List.mem_cons_of_mem _ (List.mem_cons_of_mem _ List.mem_cons_self)), mem 0 inb_S64_S16_0 (by omega) (by omega)⟩
    rcases Nat.lt_or_ge (y 0).val 32 with h' | h'
    · exact ⟨_, List.mem_cons_of_mem _ (List.mem_cons_of_mem _ List.mem_cons_self), mem 16 inb_S64_S16_16 (by omega) (by omega)⟩
    rcases Nat.lt_or_ge (y 0).val 48 with h'' | h''
    · exact ⟨_, List.mem_cons_of_mem _ List.mem_cons_self, mem 32 inb_S64_S16_32 (by omega) (by omega)⟩
    · exact ⟨_, List.mem_cons_self, mem 48 inb_S64_S16_48 (by omega) (by omega)⟩

/-- The kernel's position payloads are the flat position, lane by lane. -/
theorem pay3_eq (a b : S16.Idx → BitVec 32) (y : S16.Idx) : k0_pay3 (F := F) a b y = posWord (a y) (b y) := by
  simp only [k0_pay3, shapeCast_self]; rfl
theorem pay4_eq (a b : S16.Idx → BitVec 32) (y : S16.Idx) : k0_pay4 (F := F) a b y = posWord (a y) (b y) := by
  simp only [k0_pay4, shapeCast_self]; rfl
theorem pay65_eq (a b : S16.Idx → BitVec 32) (y : S16.Idx) : k0_pay6 (k0_pay5 (F := F) a b) y = posWord (a y) (b y) := by
  simp only [k0_pay6, k0_pay5, shapeCast_self]; rfl
theorem pay7_eq (a b : S16.Idx → BitVec 32) (y : S16.Idx) : k0_pay7 (F := F) a b y = posWord (a y) (b y) := by
  simp only [k0_pay7, shapeCast_self]; rfl

/-- The choice the kernel makes in one lane: zero where the mask word is non-zero, else the value gathered. -/
def choose (k : BitVec 32) (v : F .f32) : F .f32 := if k = 0#32 then v else Scalar.ofBits .f32 0x00000000#32

theorem select_ne (k : BitVec 32) (v : F .f32) :
    Scalar.select (IntOp.cmpi .ne k 0#32) (Scalar.ofBits .f32 0x00000000#32 : F .f32) v = choose k v := by
  unfold choose
  by_cases h : k = 0#32
  · simp [Scalar.select, IntOp.cmpi, h]
  · have hb : (k != 0#32) = true := by simp [h]
    simp [Scalar.select, IntOp.cmpi, h, hb]

/-- The kernel's stored payloads are that choice, lane by lane. -/
theorem pay8_eq (k : S16.Idx → BitVec 32) (v : S16.Idx → F .f32) (y : S16.Idx) : k0_pay8 (F := F) k v y = choose (k y) (v y) := by
  simp only [k0_pay8, shapeCast_self]; exact select_ne _ _
theorem pay9_eq (k : S16.Idx → BitVec 32) (v : S16.Idx → F .f32) (y : S16.Idx) : k0_pay9 (F := F) k v y = choose (k y) (v y) := by
  simp only [k0_pay9, shapeCast_self]; exact select_ne _ _
theorem pay1_eq (k : S16.Idx → BitVec 32) (v : S16.Idx → F .f32) (y : S16.Idx) : k0_pay1 (F := F) k v y = choose (k y) (v y) := by
  simp only [k0_pay1, shapeCast_self]; exact select_ne _ _
theorem pay2_eq (k : S16.Idx → BitVec 32) (v : S16.Idx → F .f32) (y : S16.Idx) : k0_pay2 (F := F) k v y = choose (k y) (v y) := by
  simp only [k0_pay2, shapeCast_self]; exact select_ne _ _

/-- The window on the whole table that the gather reads through. -/
abbrev tabAll : Memref sig .scVector .hbm S4194304 .f32 :=
  (tabV).slice (Rect.unit (s := S4194304) ![0] S4194304.size inb_S4194304_S4194304_0) (fun _ => rfl)

/-- The gather's payload, when entry `y` of the list names word `w y`: the table's element at that word. -/
theorem gathered_eq (x : S4194304.Idx → F .f32) (lst : S64.Idx → BitVec 32) (hn : S64.numel = S64.size gathers_S4194304_S64.axis')
    (hl : ∀ y, (lst y).toNat < S4194304.size gathers_S4194304_S64.axis) (y : S64.Idx) :
    SparseCore.gatherPayload (F := F) (e := .f32) gathers_S4194304_S64 ((tabAll).view.read (Elt F) x) (SparseCore.rows (F := F) lst hn hl) y = x (tabIx (lst y)) := by
  have hy : S64.rowMajor.symm ((y gathers_S4194304_S64.axis').cast hn.symm) = y := by
    rw [Equiv.symm_apply_eq]
    exact Fin.ext (Shape.rowMajor_val_one y).symm
  have hix : (Rect.unit (s := S4194304) ![0] S4194304.size inb_S4194304_S4194304_0).emb
      (gathers_S4194304_S64.idx (SparseCore.rows (F := F) lst hn hl) y) = tabIx (lst y) := by
    funext a
    match a with
    | 0 =>
      apply Fin.ext
      have hv : (gathers_S4194304_S64.idx (SparseCore.rows (F := F) lst hn hl) y 0).val = (lst y).toNat := by
        refine (congrArg Fin.val (Shape.Gathers.idx_axis gathers_S4194304_S64 (SparseCore.rows (F := F) lst hn hl) y)).trans ?_
        show (lst (S64.rowMajor.symm _)).toNat = _
        rw [hy]
      have hlt : (lst y).toNat < 4194304 := hl y
      show 0 + 1 * _ = (lst y).toNat % 4194304
      rw [Nat.mod_eq_of_lt hlt]; omega
  show x _ = _
  exact congrArg x hix

/-- A working subcore's run of the result, after the write-out of a buffer `w` into it, holds any function that `w`
    agrees with there. -/
theorem run_written (h : k0_cond1 L = 1#1) (o g : Buf (Elt F) (resLoc d)) (w : (runRect L h).shape.Idx → F .f32)
    (hw : ∀ y : S64.Idx, w y = g ((runRect L h).emb y)) :
    (((resV).slice (runRect L h) (fun _ => rfl)).view.loc (V d (cV L) (jV L)) ↦[((resV).slice (runRect L h) (fun _ => rfl)).view.set]{fullShare}
        ((resV).slice (runRect L h) (fun _ => rfl)).view.writes (Elt F) o [⟨Rect.whole (runRect L h).shape, w⟩] : sProp 𝕄)
      = resLoc d ↦[runSet (wL L)]{fullShare} g := by
  rw [← pts_window (F := F) d L h g]
  refine pointsTo_congr fun j hj => ?_
  obtain ⟨y, -, rfl⟩ := Finset.mem_map.mp hj
  refine Eq.trans ?_ (hw y)
  have e := View.read_writes_cons_emb (Val := Elt F) ((resV).slice (runRect L h) (fun _ => rfl)).view o (Rect.whole (runRect L h).shape) w [] y
  have hy : (Rect.whole (runRect L h).shape).emb y = y := Rect.emb_whole_apply _ _
  exact (congrArg (((resV).slice (runRect L h) (fun _ => rfl)).view.read (Elt F)
    (((resV).slice (runRect L h) (fun _ => rfl)).view.writes (Elt F) o [⟨Rect.whole (runRect L h).shape, w⟩])) hy.symm).trans e

variable (x : Buf (Elt F) (tabLoc d)) (r : Buf (Elt F) (rowLoc d)) (c : Buf (Elt F) (colLoc d)) (k : Buf (Elt F) (mskLoc d)) (o : Buf (Elt F) (resLoc d))

/-- The kernel's body on the subcore at grid point `L`, on the launch's arrays, scratch buffers and semaphores. -/
abbrev bodyOf (L : grid0.Coords) :=
  cc0_body (F := F) L tabV (Memref.isWhole_whole _) rowV (Memref.isWhole_whole _) colV (Memref.isWhole_whole _) mskV (Memref.isWhole_whole _)
    resV (Memref.isWhole_whole _) rowS (Memref.isWhole_whole _) colS (Memref.isWhole_whole _) mskS (Memref.isWhole_whole _)
    posS (Memref.isWhole_whole _) valS (Memref.isWhole_whole _) cc0_scratch5 cc0_scoped0 cc0_scoped1 cc0_scoped2 cc0_scoped3

set_option maxHeartbeats 4000000 in
/-- One subcore's task. It starts with its share of the table, the rows, the columns and the mask words, and its run of
    the result at any contents. If every flat position `row * 512 + column` is in the table, then the task ends without
    a fault, the four arrays are as they were, and the run of the result holds `picked`. -/
theorem subcore_task (hF : (K (F := F)).Facts) (hin : ∀ j, (posWord (r j) (c j)).toNat < 4194304)
    (O : CellTallies nD τ sig (HIx 1)) (W : Waits sig (HIx 1)) (hO : ∀ g, O g none = 0) :
    iprop(levAts (K (F := F)).L (K (F := F)).lev ∗ emp ∗ part d (wL L) x r c k o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (bodyOf L)
          fun _ => iprop(part d (wL L) x r c k (picked x r c k)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [bodyOf, cc0_body_eq_skeleton]; unfold cc0_body_skel
  rw [(K (F := F)).scopedBufs_V hF d (cV L) (jV L), SparseCore.Cfg.scopedSems0_V (Val := Elt F) d (cV L) (jV L), ownSems0_V, ownBufs_V]
  by_cases h : k0_cond1 L = 1#1
  · simp only [h, k0_part1_eq_skeleton, k0_part2_eq_skeleton]
    simp only [k0_part1_skel, k0_part2_skel]
    iintro ⟨#Hlv, -, ⟨Ht, Hr, Hc, Hk, Ho⟩, ⟨⟨%f0, Hs0⟩, ⟨%f1, Hs1⟩, ⟨%f2, Hs2⟩, ⟨%f3, Hs3⟩, ⟨%f4, Hs4⟩, Hbufs⟩, ⟨HsemA, HsemB, HsemC, HsemE, HsemG, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Ho' := (Entails.of_eq (pts_window (F := F) d L h _).symm) $$ Ho
    ihave Ht' := (Entails.of_eq (show (tabLoc d ↦{rdShare (wL L)} x : sProp 𝕄) = ((tabV).view.loc (V d (cV L) (jV L)) ↦{rdShare (wL L)} x : sProp 𝕄) from rfl)) $$ Ht
    ihave Hr' := (Entails.of_eq (show (rowLoc d ↦{rdShare (wL L)} r : sProp 𝕄) = ((rowV).view.loc (V d (cV L) (jV L)) ↦{rdShare (wL L)} r : sProp 𝕄) from rfl)) $$ Hr
    ihave Hc' := (Entails.of_eq (show (colLoc d ↦{rdShare (wL L)} c : sProp 𝕄) = ((colV).view.loc (V d (cV L) (jV L)) ↦{rdShare (wL L)} c : sProp 𝕄) from rfl)) $$ Hc
    ihave Hk' := (Entails.of_eq (show (mskLoc d ↦{rdShare (wL L)} k : sProp 𝕄) = ((mskV).view.loc (V d (cV L) (jV L)) ↦{rdShare (wL L)} k : sProp 𝕄) from rfl)) $$ Hk
    ihave Hs0' := (Entails.of_eq (show ((V d (cV L) (jV L)).loc cc0_scratch0 ↦{fullShare} f0 : sProp 𝕄) = ((rowS).view.loc (V d (cV L) (jV L)) ↦{fullShare} f0 : sProp 𝕄) from rfl)) $$ Hs0
    ihave Hs1' := (Entails.of_eq (show ((V d (cV L) (jV L)).loc cc0_scratch1 ↦{fullShare} f1 : sProp 𝕄) = ((colS).view.loc (V d (cV L) (jV L)) ↦{fullShare} f1 : sProp 𝕄) from rfl)) $$ Hs1
    ihave Hs2' := (Entails.of_eq (show ((V d (cV L) (jV L)).loc cc0_scratch2 ↦{fullShare} f2 : sProp 𝕄) = ((mskS).view.loc (V d (cV L) (jV L)) ↦{fullShare} f2 : sProp 𝕄) from rfl)) $$ Hs2
    ihave Hs3' := (Entails.of_eq (show ((V d (cV L) (jV L)).loc cc0_scratch3 ↦{fullShare} f3 : sProp 𝕄) = ((posS).view.loc (V d (cV L) (jV L)) ↦{fullShare} f3 : sProp 𝕄) from rfl)) $$ Hs3
    ihave Hs4' := (Entails.of_eq (show ((V d (cV L) (jV L)).loc cc0_scratch4 ↦{fullShare} f4 : sProp 𝕄) = ((valS).view.loc (V d (cV L) (jV L)) ↦{fullShare} f4 : sProp 𝕄) from rfl)) $$ Hs4
    sl_exec
    have hpos : ∀ y : S64.Idx, (posS).view.read (Elt F) ((Memref.whole cc0_scratch3).view.writes (Elt F) (Memref.whole cc0_scratch3).view.junk
        (subcore_task.sl.Hs3'_4 d L r c h f0 f1)) y = posWord (r ((runRect L h).emb y)) (c ((runRect L h).emb y)) := by
      sl_unfold_run_names
      intro y
      refine read_groups _ _ (e := .i32) (fun y => posWord (r ((runRect L h).emb y)) (c ((runRect L h).emb y))) _ _ _ _
        (fun z => ?_) (fun z => ?_) (fun z => ?_) (fun z => ?_) y
      · refine (pay3_eq _ _ z).trans ?_
        rw [View.write_whole_univ, View.write_whole_univ]; rfl
      · refine (pay4_eq _ _ z).trans ?_
        rw [View.write_whole_univ, View.write_whole_univ]; rfl
      · refine (pay65_eq _ _ z).trans ?_
        rw [View.write_whole_univ, View.write_whole_univ]; rfl
      · refine (pay7_eq _ _ z).trans ?_
        rw [View.write_whole_univ, View.write_whole_univ]; rfl
    have hlst : ∀ y : S64.Idx, ((posS).view.read (Elt F) ((Memref.whole cc0_scratch3).view.writes (Elt F) (Memref.whole cc0_scratch3).view.junk
        (subcore_task.sl.Hs3'_4 d L r c h f0 f1)) y).toNat < S4194304.size gathers_S4194304_S64.axis := fun y => by rw [hpos y]; exact hin _
    -- the gather, issued over the list just formed
    ihave Hts := (pointsTo_split_subset (q := rdShare (wL L)) (f := x) (S := Finset.univ) (Finset.subset_univ (tabAll).view.set)).1 $$ Ht'
    icases Hts with ⟨Hts, Htr⟩
    have hvs : (valS).view.set = Finset.univ := View.set_whole _
    have hps : (posS).view.set = Finset.univ := View.set_whole _
    ihave Hv := (Entails.of_eq (show ((valS).view.loc (V d (cV L) (jV L)) ↦{fullShare} f4 : sProp 𝕄)
        = (valS).view.loc (V d (cV L) (jV L)) ↦[(valS).view.set]{fullShare} f4 by rw [hvs])) $$ Hs4'
    ihave Hp := (Entails.of_eq (show ((posS).view.loc (V d (cV L) (jV L)) ↦{fullShare} ((Memref.whole cc0_scratch3).view.writes (Elt F) (Memref.whole cc0_scratch3).view.junk
        (subcore_task.sl.Hs3'_4 d L r c h f0 f1)) : sProp 𝕄)
        = (posS).view.loc (V d (cV L) (jV L)) ↦[(posS).view.set]{fullShare} ((Memref.whole cc0_scratch3).view.writes (Elt F) (Memref.whole cc0_scratch3).view.junk
        (subcore_task.sl.Hs3'_4 d L r c h f0 f1)) by rw [hps])) $$ Hs3'
    have hN : ∀ hg : S4194304.Gathers 0 S64, ∑ j, ((valS).slice (S64.rowRect hg.axis' j) (S64.stride_rowRect hg.axis' j)).view.dmaCredit
        = (valS).view.dmaCredit := by decide
    iapply (SparseCore.wp_indirectGatherLocal countersEmb 𝒱₀ (V d (cV L) (jV L)) none (hg := gathers_S4194304_S64) (default : HIx 1)
        (valS).view.dmaCredit (hN _) (by decide) hlst) $$ [Hts Hv Hp HsemG]
    · isplitl [Hts]; · iexact Hts
      isplitl [Hv]; · iexact Hv
      isplitl [Hp]; · iexact Hp
      iexact HsemG
    iintro Hfl
    sl_exec
    iapply (Transfers.wp_waitLocalO countersEmb 𝒱₀ (V d (cV L) (jV L)) none (default : HIx 1) (rfl : (valS).view.dmaCredit = _)) $$ [Hfl HO]
    · isplitl [Hfl]; · iexact Hfl
      isplitl [HO]; · iexact HO
      iapply (Transfers.MayWaits.elim (SemLoc.dma cc0_scratch5.sem)) $$ Hmw
    iintro ⟨⟨Hv, Hts, Hp⟩, HsemG, HO⟩
    ihave Ht' := (pointsTo_split_subset (q := rdShare (wL L)) (f := x) (S := Finset.univ) (Finset.subset_univ (tabAll).view.set)).2 $$ [Hts Htr]
    · isplitl [Hts] <;> iassumption
    ihave Hp' := (Entails.of_eq (show ((posS).view.loc (V d (cV L) (jV L)) ↦[(posS).view.set]{fullShare} _ : sProp 𝕄)
        = (posS).view.loc (V d (cV L) (jV L)) ↦{fullShare} _ by rw [hps])) $$ Hp
    let gat : Buf (Elt F) ((valS).view.loc (V d (cV L) (jV L))) := fun y => x (tabIx (posWord (r ((runRect L h).emb y)) (c ((runRect L h).emb y))))
    ihave Hv' := (show ((valS).view.loc (V d (cV L) (jV L)) ↦[(valS).view.set]{fullShare}
          (valS).view.write (Elt F) f4 (SparseCore.gatherPayload (F := F) (e := .f32) gathers_S4194304_S64 ((tabAll).view.read (Elt F) x) (SparseCore.rows (F := F) _ (rfl : S64.numel = S64.size gathers_S4194304_S64.axis') hlst)) Finset.univ : sProp 𝕄)
        ⊢ ((valS).view.loc (V d (cV L) (jV L)) ↦{fullShare} gat) from by
      rw [hvs]
      refine Entails.of_eq (pointsTo_congr fun y _ => ?_)
      rw [View.write_whole_univ]
      exact (gathered_eq (F := F) x _ rfl hlst y).trans (congrArg (fun w => x (tabIx w)) (hpos y))) $$ Hv
    sl_exec
    sl_step
    have hout : ∀ y : S64.Idx, subcore_task.sl.dma16 d L x r c k h f2 y = picked x r c k ((runRect L h).emb y) := by
      sl_unfold_run_names
      intro y
      refine read_groups _ _ (e := .f32) (fun y => picked x r c k ((runRect L h).emb y)) _ _ _ _
        (fun z => ?_) (fun z => ?_) (fun z => ?_) (fun z => ?_) y
      · refine (pay8_eq _ _ z).trans ?_
        rw [View.write_whole_univ]; rfl
      · refine (pay9_eq _ _ z).trans ?_
        rw [View.write_whole_univ]; rfl
      · refine (pay1_eq _ _ z).trans ?_
        rw [View.write_whole_univ]; rfl
      · refine (pay2_eq _ _ z).trans ?_
        rw [View.write_whole_univ]; rfl
    ihave Ho := (Entails.of_eq (run_written (F := F) d L h o (picked x r c k) _ hout)) $$ Ho'
    isplitl [Ht' Hr' Hc' Hk' Ho]
    · isplitl [Ht']; · iexact Ht'
      isplitl [Hr']; · iexact Hr'
      isplitl [Hc']; · iexact Hc'
      isplitl [Hk']; · iexact Hk'
      iexact Ho
    isplitl [Hs0' Hs1' Hs2' Hp' Hv' Hbufs]
    · isplitl [Hs0']; · iexists _; iexact Hs0'
      isplitl [Hs1']; · iexists _; iexact Hs1'
      isplitl [Hs2']; · iexists _; iexact Hs2'
      isplitl [Hp']; · iexists _; iexact Hp'
      isplitl [Hv']; · iexists _; iexact Hv'
      iexact Hbufs
    isplitl [HsemA HsemB HsemC HsemE HsemG Hsems]
    · isplitl [HsemA]; · iexact HsemA
      isplitl [HsemB]; · iexact HsemB
      isplitl [HsemC]; · iexact HsemC
      isplitl [HsemE]; · iexact HsemE
      isplitl [HsemG]; · iexact HsemG
      iexact Hsems
    iexists _; isplitr
    swap; · iexact HO
    ipureintro; intro p hp
    simp only [Finset.mem_insert] at hp
    rcases hp with hp | hp | hp | hp | hp | hp
    · exact .inr (hp ▸ rfl)
    · exact .inr (hp ▸ rfl)
    · exact .inr (hp ▸ rfl)
    · exact .inr (hp ▸ rfl)
    · exact .inr (hp ▸ rfl)
    · exact .inl hp
  · simp only [h]
    iintro ⟨-, -, ⟨Ht, Hr, Hc, Hk, Ho⟩, Hbufs, Hsems, HO⟩
    have he : runSet (wL L) = ∅ := by
      have hw : ¬ (wL L).val < 25 := fun hw => h ((working_iff L).mpr hw)
      refine Finset.filter_eq_empty_iff.mpr fun j _ hj => hw ?_
      have : (j 0).val < 1600 := (j 0).isLt
      omega
    ihave Ho := (Entails.of_eq (pointsTo_congr (ℓ := resLoc d) (I := runSet (wL L)) (q := fullShare) (f := o) (g := picked x r c k)
      (fun j hj => by rw [he] at hj; exact absurd hj (Finset.notMem_empty j)))) $$ Ho
    sl_exec
    sl_step
    isplitl [Ht Hr Hc Hk Ho]
    · isplitl [Ht]; · iexact Ht
      isplitl [Hr]; · iexact Hr
      isplitl [Hc]; · iexact Hc
      isplitl [Hk]; · iexact Hk
      iexact Ho
    isplitl [Hbufs]; · iexact Hbufs
    isplitl [Hsems]; · iexact Hsems
    iexists _; isplitr
    swap; · iexact HO
    ipureintro; exact fun p hp => .inl hp

end Tile

end Cert.Proof.KernelIdealRun

end
-- ==== Proof.KernelIdealRun.lean ====
/-
  The whole program run: @main lays the four arguments out flat and widens the mask to words, calls the kernel on the 32
  subcores, and shapes the 1600 results as [16, 50, 2]. The theorem at the end (`run_main`) says what every run leaves: the four
  arguments as they were, the result at `outAt`, every semaphore at zero. Each subcore's task is `subcore_task`; here the
  arrays are dealt out to the subcores and collected again.
-/
module

public import proofs.«01_k».proof.Proof.KernelIdealTile

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic

variable {F : FTy → Type}

local notation "𝕄" => MT nD τ sig (HIx 1) (Elt F) ℕ UU ℕ

/-- The launch's four handshake semaphores are as a launch needs them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

abbrev EH : Emb UH (MT nD τ sig (HIx 1) (Elt F) ℕ UU ℕ) := embL

/-! ## What @main computes around the call -/

variable (m : (ℓ : Loc nD τ sig) → Buf (Elt F) ℓ) (ρ : Dev nD → PrngReg)

/-- The launch contents of the four arguments on device `d`. -/
abbrev dataAt (d : Dev nD) : S16x512x512.Idx → F .f32 := m ((SparseCore.T d).loc main_arg0)
abbrev rowsAt (d : Dev nD) : S1600x1.Idx → BitVec 32 := m ((SparseCore.T d).loc main_arg1)
abbrev colsAt (d : Dev nD) : S1600x1.Idx → BitVec 32 := m ((SparseCore.T d).loc main_arg2)
abbrev maskAt (d : Dev nD) : S1600x1.Idx → BitVec 1 := m ((SparseCore.T d).loc main_arg3)

/-- What the call reads: the table flat, the row numbers flat, the column numbers flat, the mask flat and as words. -/
abbrev flatTab (d : Dev nD) : S4194304.Idx → F .f32 := shapeCast S4194304 (dataAt m d) shapeCasts_S16x512x512_S4194304
abbrev flatRow (d : Dev nD) : S1600.Idx → BitVec 32 := shapeCast S1600 (rowsAt m d) shapeCasts_S1600x1_S1600
abbrev flatCol (d : Dev nD) : S1600.Idx → BitVec 32 := shapeCast S1600 (colsAt m d) shapeCasts_S1600x1_S1600
abbrev flatMsk (d : Dev nD) : S1600.Idx → BitVec 32 := extui 32 (shapeCast S1600 (maskAt m d) shapeCasts_S1600x1_S1600) natLt_1_32

/-- What the proof asks of the launch memory: every flat position is inside the table. -/
def InTable : Prop := ∀ (d : Dev nD) (j : S1600.Idx), (posWord (flatRow m d j) (flatCol m d j)).toNat < 4194304

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev tab' : DevRef τ sig := Proc.devRef .tc (main_v0 : Ref sig .tc)
abbrev row' : DevRef τ sig := Proc.devRef .tc (main_v1 : Ref sig .tc)
abbrev col' : DevRef τ sig := Proc.devRef .tc (main_v2 : Ref sig .tc)
abbrev bit' : DevRef τ sig := Proc.devRef .tc (main_v3 : Ref sig .tc)
abbrev msk' : DevRef τ sig := Proc.devRef .tc (main_v4 : Ref sig .tc)
abbrev res' : DevRef τ sig := Proc.devRef .tc (main_v5 : Ref sig .tc)
abbrev out' : DevRef τ sig := Proc.devRef .tc (main_v6 : Ref sig .tc)

/-- The TensorCore's eleven arrays; the five the call takes; the five the claims are about. -/
abbrev allRefs : Finset (DevRef τ sig) := {a0', a1', a2', a3', tab', row', col', bit', msk', res', out'}
abbrev callRefs : Finset (DevRef τ sig) := {tab', row', col', msk', res'}
abbrev endRefs : Finset (DevRef τ sig) := {a0', a1', a2', a3', out'}

/-- @main's host operations, in order: four reshapes and the mask's widening before the call, one reshape after it. -/
abbrev opTab : HloOp τ sig (Elt F) := StableHlo.reshape main_arg0 main_v0 (rfl : (.f32 : EltTy) = .f32) shapeCasts_S16x512x512_S4194304
abbrev opRow : HloOp τ sig (Elt F) := StableHlo.reshape main_arg1 main_v1 (rfl : (.i32 : EltTy) = .i32) shapeCasts_S1600x1_S1600
abbrev opCol : HloOp τ sig (Elt F) := StableHlo.reshape main_arg2 main_v2 (rfl : (.i32 : EltTy) = .i32) shapeCasts_S1600x1_S1600
abbrev opBit : HloOp τ sig (Elt F) := StableHlo.reshape main_arg3 main_v3 (rfl : (.i1 : EltTy) = .i1) shapeCasts_S1600x1_S1600
abbrev opMsk : HloOp τ sig (Elt F) :=
  StableHlo.unary main_v3 main_v4 ((extui 32 · natLt_1_32) : (⟨S1600, .i1⟩ : BufTy).Contents (Elt F) → (⟨S1600, .i32⟩ : BufTy).Contents (Elt F))
abbrev opOut : HloOp τ sig (Elt F) := StableHlo.reshape main_v5 main_v6 (rfl : (.f32 : EltTy) = .f32) shapeCasts_S1600_S16x50x2

theorem opTab_bufs : (opTab (F := F)).bufs ⊆ allRefs := show ({a0', tab'} : Finset (DevRef τ sig)) ⊆ allRefs by decide
theorem opRow_bufs : (opRow (F := F)).bufs ⊆ allRefs := show ({a1', row'} : Finset (DevRef τ sig)) ⊆ allRefs by decide
theorem opCol_bufs : (opCol (F := F)).bufs ⊆ allRefs := show ({a2', col'} : Finset (DevRef τ sig)) ⊆ allRefs by decide
theorem opBit_bufs : (opBit (F := F)).bufs ⊆ allRefs := show ({a3', bit'} : Finset (DevRef τ sig)) ⊆ allRefs by decide
theorem opMsk_bufs : (opMsk (F := F)).bufs ⊆ allRefs := show ({bit', msk'} : Finset (DevRef τ sig)) ⊆ allRefs by decide
theorem opOut_bufs : (opOut (F := F)).bufs ⊆ allRefs := show ({res', out'} : Finset (DevRef τ sig)) ⊆ allRefs by decide

/-- The arrays' contents at the launch, and after each host operation up to the call. -/
def cont0 (d : Dev nD) : Valuation τ sig (Elt F) := fun b => m (d, b)
def cont1 (d : Dev nD) : Valuation τ sig (Elt F) := (opTab (F := F)).result (cont0 m d)
def cont2 (d : Dev nD) : Valuation τ sig (Elt F) := (opRow (F := F)).result (cont1 m d)
def cont3 (d : Dev nD) : Valuation τ sig (Elt F) := (opCol (F := F)).result (cont2 m d)
def cont4 (d : Dev nD) : Valuation τ sig (Elt F) := (opBit (F := F)).result (cont3 m d)
def cont5 (d : Dev nD) : Valuation τ sig (Elt F) := (opMsk (F := F)).result (cont4 m d)

/-- An array that none of the five operations writes is at its launch contents when the call starts. -/
theorem cont5_kept (d : Dev nD) (b : DevRef τ sig) (hb : b ∉ ({tab', row', col', bit', msk'} : Finset (DevRef τ sig))) : cont5 m d b = m (d, b) := by
  simp only [Finset.mem_insert, Finset.mem_singleton, not_or] at hb
  obtain ⟨h0, h1, h2, h3, h4⟩ := hb
  unfold cont5 cont4 cont3 cont2 cont1 cont0
  rw [(opMsk (F := F)).result_of_not_mem _ (show b ∉ ({msk'} : Finset (DevRef τ sig)) from fun h => h4 (Finset.mem_singleton.mp h)),
    (opBit (F := F)).result_of_not_mem _ (show b ∉ ({bit'} : Finset (DevRef τ sig)) from fun h => h3 (Finset.mem_singleton.mp h)),
    (opCol (F := F)).result_of_not_mem _ (show b ∉ ({col'} : Finset (DevRef τ sig)) from fun h => h2 (Finset.mem_singleton.mp h)),
    (opRow (F := F)).result_of_not_mem _ (show b ∉ ({row'} : Finset (DevRef τ sig)) from fun h => h1 (Finset.mem_singleton.mp h)),
    (opTab (F := F)).result_of_not_mem _ (show b ∉ ({tab'} : Finset (DevRef τ sig)) from fun h => h0 (Finset.mem_singleton.mp h))]

/-- The four arrays the call reads hold the flat table, rows, columns and mask words. -/
theorem cont5_tab (d : Dev nD) : cont5 m d tab' = flatTab m d := by
  unfold cont5 cont4 cont3 cont2
  rw [(opMsk (F := F)).result_of_not_mem _ (show tab' ∉ ({msk'} : Finset (DevRef τ sig)) by decide),
    (opBit (F := F)).result_of_not_mem _ (show tab' ∉ ({bit'} : Finset (DevRef τ sig)) by decide),
    (opCol (F := F)).result_of_not_mem _ (show tab' ∉ ({col'} : Finset (DevRef τ sig)) by decide),
    (opRow (F := F)).result_of_not_mem _ (show tab' ∉ ({row'} : Finset (DevRef τ sig)) by decide)]
  exact StableHlo.reshape_result _ _ _ _ _ _ _
theorem cont5_row (d : Dev nD) : cont5 m d row' = flatRow m d := by
  unfold cont5 cont4 cont3
  rw [(opMsk (F := F)).result_of_not_mem _ (show row' ∉ ({msk'} : Finset (DevRef τ sig)) by decide),
    (opBit (F := F)).result_of_not_mem _ (show row' ∉ ({bit'} : Finset (DevRef τ sig)) by decide),
    (opCol (F := F)).result_of_not_mem _ (show row' ∉ ({col'} : Finset (DevRef τ sig)) by decide)]
  refine (StableHlo.reshape_result _ _ _ _ _ _ _).trans ?_
  have e : cont1 m d a1' = rowsAt m d := (opTab (F := F)).result_of_not_mem _ (show a1' ∉ ({tab'} : Finset (DevRef τ sig)) by decide)
  rw [e]; rfl
theorem cont5_col (d : Dev nD) : cont5 m d col' = flatCol m d := by
  unfold cont5 cont4
  rw [(opMsk (F := F)).result_of_not_mem _ (show col' ∉ ({msk'} : Finset (DevRef τ sig)) by decide),
    (opBit (F := F)).result_of_not_mem _ (show col' ∉ ({bit'} : Finset (DevRef τ sig)) by decide)]
  refine (StableHlo.reshape_result _ _ _ _ _ _ _).trans ?_
  have e : cont2 m d a2' = colsAt m d := by
    unfold cont2 cont1
    rw [(opRow (F := F)).result_of_not_mem _ (show a2' ∉ ({row'} : Finset (DevRef τ sig)) by decide),
      (opTab (F := F)).result_of_not_mem _ (show a2' ∉ ({tab'} : Finset (DevRef τ sig)) by decide)]
    rfl
  rw [e]; rfl
theorem cont5_msk (d : Dev nD) : cont5 m d msk' = flatMsk m d := by
  unfold cont5
  refine (StableHlo.unary_result _ _ _ _ _ _).trans ?_
  have e : cont4 m d bit' = shapeCast S1600 (maskAt m d) shapeCasts_S1600x1_S1600 := by
    unfold cont4
    refine (StableHlo.reshape_result _ _ _ _ _ _ _).trans ?_
    have e' : cont3 m d a3' = maskAt m d := by
      unfold cont3 cont2 cont1
      rw [(opCol (F := F)).result_of_not_mem _ (show a3' ∉ ({col'} : Finset (DevRef τ sig)) by decide),
        (opRow (F := F)).result_of_not_mem _ (show a3' ∉ ({row'} : Finset (DevRef τ sig)) by decide),
        (opTab (F := F)).result_of_not_mem _ (show a3' ∉ ({tab'} : Finset (DevRef τ sig)) by decide)]
      rfl
    rw [e']; rfl
  rw [e]

variable [FloatOps F]

/-- What the call leaves in the array of 1600 results. -/
abbrev resAt (d : Dev nD) : S1600.Idx → F .f32 := picked (flatTab m d) (flatRow m d) (flatCol m d) (flatMsk m d)
/-- The program's result. -/
abbrev outAt (d : Dev nD) : S16x50x2.Idx → F .f32 := shapeCast S16x50x2 (resAt m d) shapeCasts_S1600_S16x50x2

/-- The contents after the call, and after the last reshape. -/
def cont6 (d : Dev nD) : Valuation τ sig (Elt F) := Function.update (cont5 m d) res' (resAt m d)
def cont7 (d : Dev nD) : Valuation τ sig (Elt F) := (opOut (F := F)).result (cont6 m d)

theorem cont6_ne (d : Dev nD) (b : DevRef τ sig) (hb : b ≠ res') : cont6 m d b = cont5 m d b := Function.update_of_ne hb _ _
theorem cont6_res (d : Dev nD) : cont6 m d res' = resAt m d := Function.update_self _ _ _

/-- At the end each argument holds its launch contents and the result holds `outAt`. -/
theorem cont7_arg (d : Dev nD) (b : DevRef τ sig) (hb : b ∉ ({tab', row', col', bit', msk', res', out'} : Finset (DevRef τ sig))) : cont7 m d b = m (d, b) := by
  simp only [Finset.mem_insert, Finset.mem_singleton, not_or] at hb
  obtain ⟨h0, h1, h2, h3, h4, h5, h6⟩ := hb
  unfold cont7
  rw [(opOut (F := F)).result_of_not_mem _ (show b ∉ ({out'} : Finset (DevRef τ sig)) from fun h => h6 (Finset.mem_singleton.mp h)), cont6_ne m d b h5]
  exact cont5_kept m d b (by simp only [Finset.mem_insert, Finset.mem_singleton, not_or]; exact ⟨h0, h1, h2, h3, h4⟩)
theorem cont7_out (d : Dev nD) : cont7 m d out' = outAt m d := by
  unfold cont7
  refine (StableHlo.reshape_result _ _ _ _ _ _ _).trans ?_
  have e : cont6 m d res' = resAt m d := cont6_res m d
  rw [e]; rfl

/-! ## Dealing the arrays out to the subcores -/

/-- A subcore's part of the arrays before its task, and after it. -/
abbrev before (d : Dev nD) (w : Fin 32) : sProp 𝕄 := part d w (flatTab m d) (flatRow m d) (flatCol m d) (flatMsk m d) (m (resLoc d))
abbrev after (d : Dev nD) (w : Fin 32) : sProp 𝕄 := part d w (flatTab m d) (flatRow m d) (flatCol m d) (flatMsk m d) (resAt m d)

/-- The numbers of the subcores: subcore `i` of SparseCore `c` has number `runNo c i`, each number once. -/
def numbering : Fin 2 × Fin 16 ≃ Fin 32 where
  toFun p := runNo p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] in
/-- Different runs have no result in common, and together they are all the results. -/
theorem runs_disjoint : ∀ w ∈ (Finset.univ : Finset (Fin 32)), ∀ w' ∈ (Finset.univ : Finset (Fin 32)), w ≠ w' → Disjoint (runSet w) (runSet w') :=
  fun w _ w' _ h => Finset.disjoint_left.mpr fun j hj hj' =>
    h (Fin.ext ((Finset.mem_filter.mp hj).2.symm.trans (Finset.mem_filter.mp hj').2))
omit [FloatOps F] in
theorem runs_cover : (Finset.univ : Finset (Fin 32)).biUnion runSet = Finset.univ := by
  refine Finset.eq_univ_iff_forall.mpr fun j => Finset.mem_biUnion.mpr ?_
  have hj : (j 0).val < 1600 := (j 0).isLt
  exact ⟨⟨(j 0).val / 64, by omega⟩, Finset.mem_univ _, Finset.mem_filter.mpr ⟨Finset.mem_univ _, rfl⟩⟩

omit [FloatOps F] in
/-- The five arrays held whole are the 32 subcores' parts, SparseCore by SparseCore. -/
theorem whole_parts (d : Dev nD) (x : Buf (Elt F) (tabLoc d)) (r : Buf (Elt F) (rowLoc d)) (c : Buf (Elt F) (colLoc d)) (k : Buf (Elt F) (mskLoc d))
    (o : Buf (Elt F) (resLoc d)) :
    (iprop((tabLoc d ↦{fullShare} x) ∗ (rowLoc d ↦{fullShare} r) ∗ (colLoc d ↦{fullShare} c) ∗ (mskLoc d ↦{fullShare} k) ∗ resLoc d ↦{fullShare} o) : sProp 𝕄)
      = bigSep Finset.univ fun a : Fin 2 => bigSep Finset.univ fun i : Fin 16 => part d (runNo a i) x r c k o := by
  have e : (bigSep Finset.univ fun a : Fin 2 => bigSep Finset.univ fun i : Fin 16 => part d (runNo a i) x r c k o)
      = (bigSep Finset.univ fun w : Fin 32 => (part d w x r c k o : sProp 𝕄)) :=
    (bigSep_univ_prod (fun p : Fin 2 × Fin 16 => (part d (runNo p.1 p.2) x r c k o : sProp 𝕄))).symm.trans
      (bigSep_univ_equiv numbering (fun w : Fin 32 => (part d w x r c k o : sProp 𝕄))).symm
  have eo : (resLoc d ↦{fullShare} o : sProp 𝕄) = bigSep Finset.univ fun w : Fin 32 => resLoc d ↦[runSet w]{fullShare} o := by
    rw [← pointsTo_biUnion Finset.univ (ℓ := resLoc d) runSet runs_disjoint, runs_cover]
  rw [e, bigSep_sep', bigSep_sep', bigSep_sep', bigSep_sep', eo]
  rw [ShareLeaves.pointsTo_leaves Finset.univ x 5 fullShare, ShareLeaves.pointsTo_leaves Finset.univ r 5 fullShare,
    ShareLeaves.pointsTo_leaves Finset.univ c 5 fullShare, ShareLeaves.pointsTo_leaves Finset.univ k 5 fullShare]
  rfl

/-- The call hands each SparseCore its sixteen subcores' parts, and each subcore its own; they come back with the
    result's runs at `picked`. -/
def P : (K (F := F)).Pay (nD := nD) (Val := Elt F) (Name := ℕ) (U := UU) where
  st := fun q d c => match q with | 0 => bigSep Finset.univ fun i : Fin 16 => before m d (runNo (Fin.cast nCore_zero c) i)
  dn := fun q d c => match q with | 0 => bigSep Finset.univ fun i : Fin 16 => after m d (runNo (Fin.cast nCore_zero c) i)
  go := fun q d c i => match q with | 0 => before m d (runNo (Fin.cast nCore_zero c) (Fin.cast nSub_zero i))
  td := fun q d c i => match q with | 0 => after m d (runNo (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => before m d (runNo (Fin.cast nCore_zero c) i)))
  dn q d c := match q with
    | 0 => (inferInstance : BI.Storable (upEmb : UEmb _ 𝕄) (bigSep Finset.univ fun i : Fin 16 => after m d (runNo (Fin.cast nCore_zero c) i)))
  go q d c i := match q with
    | 0 => (inferInstance : BI.Storable (upEmb : UEmb _ 𝕄) (before m d (runNo (Fin.cast nCore_zero c) (Fin.cast nSub_zero i))))
  td q d c i := match q with
    | 0 => (inferInstance : BI.Storable (upEmb : UEmb _ 𝕄) (after m d (runNo (Fin.cast nCore_zero c) (Fin.cast nSub_zero i))))

/-! ## The subcores' obligation -/

/-- The grid point of subcore `s` on SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => bodyOf (coordsV c s)) ⟨⟩ c s := rfl

omit [FloatOps F] in
/-- A task that waited only on its own semaphores meets what the launch asks of its waits. -/
theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr; · ipureintro; exact fun p hp => (hW p hp).imp_right Or.inl
  iexact HO

set_option maxRecDepth 16384 in
/-- Every subcore's task does what the call's payloads promise. -/
theorem tileObl (hF : (K (F := F)).Facts) (hin : InTable m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (subcore_task d (coordsV ⟨_, hci.1⟩ ⟨_, hci.2⟩) (flatTab m d) (flatRow m d) (flatCol m d) (flatMsk m d) (m (resLoc d)) hF (hin d) O W hO).trans
    (wp_mono frame _ _ fun _ => own_waits)

/-- A SparseCore's operands are its subcores' parts, and its results are theirs. -/
theorem vecSplit : (K (F := F)).VecSplit' (P m) 0 := by
  intro d c
  show (bigSep Finset.univ fun i : Fin 16 => before m d (runNo (Fin.cast nCore_zero c) i)) ⊢ |={Set.univ}=> iprop(
    (bigSep Finset.univ fun i : Fin 16 => before m d (runNo (Fin.cast nCore_zero c) i))
      ∗ ((bigSep Finset.univ fun i : Fin 16 => after m d (runNo (Fin.cast nCore_zero c) i))
        -∗ bigSep Finset.univ fun i : Fin 16 => after m d (runNo (Fin.cast nCore_zero c) i)))
  iintro H; imodintro
  isplitl [H]; · iexact H
  iintro H; iexact H

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_emp_const _).trans (bigSep_emp_const _)
  have hd : (bigSep Finset.univ fun _ : Dev nD => iprop(emp)) = (iprop(emp) : sProp 𝕄) := bigSep_emp_const _
  unfold u₀
  rw [hx, hd]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

omit [FloatOps F] in
/-- The TensorCore's unscoped arrays are the eleven. -/
theorem unscoped_held (d : Dev nD) : (unscopedBufs d (fun b => m ((SparseCore.T d).loc b)) : sProp 𝕄) = held (T d) allRefs (cont0 m d) := by
  unfold unscopedBufs held allRefs
  rw [show (Finset.univ.filter fun b : Ref sig .tc => ¬ b.isScoped)
      = {main_arg0, main_arg1, main_arg2, main_arg3, main_v0, main_v1, main_v2, main_v3, main_v4, main_v5, main_v6} by decide]
  repeat rw [SparseCore.bigSep_insert' (by decide)]
  rw [bigSep_singleton, bigSep_singleton]
  rfl

omit [FloatOps F] in
/-- The call's five arrays, one by one. -/
theorem held_call (d : Dev nD) (W : Valuation τ sig (Elt F)) :
    (held (T d) callRefs W : sProp 𝕄)
      = iprop((tabLoc d ↦{fullShare} W tab') ∗ (rowLoc d ↦{fullShare} W row') ∗ (colLoc d ↦{fullShare} W col') ∗ (mskLoc d ↦{fullShare} W msk')
          ∗ resLoc d ↦{fullShare} W res') := by
  unfold held callRefs
  rw [SparseCore.bigSep_insert' (by decide), SparseCore.bigSep_insert' (by decide), SparseCore.bigSep_insert' (by decide),
    SparseCore.bigSep_insert' (by decide), bigSep_singleton]

/-- What @main leaves the claims: the arguments at their launch contents, the result at `outAt`. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ (SparseCore.T d).loc main_v6 ↦{fullShare} outAt m d)

/-- The arrays the claims are about, one by one, at the end. -/
theorem held_end (d : Dev nD) : (held (T d) endRefs (cont7 m d) : sProp 𝕄) = FIN m d := by
  unfold held endRefs
  rw [SparseCore.bigSep_insert' (by decide), SparseCore.bigSep_insert' (by decide), SparseCore.bigSep_insert' (by decide),
    SparseCore.bigSep_insert' (by decide), bigSep_singleton, cont7_arg m d a0' (by decide), cont7_arg m d a1' (by decide),
    cont7_arg m d a2' (by decide), cont7_arg m d a3' (by decide), cont7_out]

/-- The call's five arrays before it are what it hands the SparseCores; what they hand back is the five after it. -/
theorem call_in (d : Dev nD) :
    (held (T d) callRefs (cont5 m d) : sProp 𝕄) = bigSep Finset.univ fun c : Fin ((K (F := F)).nCore 0) => (P m).st 0 d c := by
  rw [held_call, cont5_tab, cont5_row, cont5_col, cont5_msk, cont5_kept m d res' (by decide), whole_parts]
  rfl
theorem call_out (d : Dev nD) :
    (bigSep Finset.univ fun c : Fin ((K (F := F)).nCore 0) => (P m).dn 0 d c) = (held (T d) callRefs (cont6 m d) : sProp 𝕄) := by
  rw [held_call, cont6_ne m d tab' (by decide), cont6_ne m d row' (by decide), cont6_ne m d col' (by decide), cont6_ne m d msk' (by decide),
    cont5_tab, cont5_row, cont5_col, cont5_msk, cont6_res, whole_parts]
  rfl

omit [FloatOps F] in
theorem rest_kept (d : Dev nD) (f : S1600.Idx → F .f32) :
    (held (T d) (allRefs \ callRefs) (cont5 m d) : sProp 𝕄) = held (T d) (allRefs \ callRefs) (Function.update (cont5 m d) res' f) :=
  held_congr _ fun b hb => (Function.update_of_ne (show b ≠ res' from fun e => by rw [e] at hb; revert hb; decide) _ _).symm

set_option maxHeartbeats 1000000 in
/-- @main on device `d`'s TensorCore: the host operations over the eleven arrays, and between them the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTab) (S := allRefs) opTab_bufs (V := cont0 m d)) $$ [Hb Hheld]
  · isplitl [Hb] <;> iassumption
  iintro ⟨Hb, Hheld⟩
  rw [wp_ret]; imodintro
  iapply (wp_hlo_within 𝒱 (SparseCore.T d) none Set.univ (op := opRow) (S := allRefs) opRow_bufs (V := cont1 m d)) $$ [Hb Hheld]
  · isplitl [Hb]; · iexact Hb
    iexact Hheld
  iintro ⟨Hb, Hheld⟩
  rw [wp_ret]; imodintro
  iapply (wp_hlo_within 𝒱 (SparseCore.T d) none Set.univ (op := opCol) (S := allRefs) opCol_bufs (V := cont2 m d)) $$ [Hb Hheld]
  · isplitl [Hb]; · iexact Hb
    iexact Hheld
  iintro ⟨Hb, Hheld⟩
  rw [wp_ret]; imodintro
  iapply (wp_hlo_within 𝒱 (SparseCore.T d) none Set.univ (op := opBit) (S := allRefs) opBit_bufs (V := cont3 m d)) $$ [Hb Hheld]
  · isplitl [Hb]; · iexact Hb
    iexact Hheld
  iintro ⟨Hb, Hheld⟩
  rw [wp_ret]; imodintro
  iapply (wp_hlo_within 𝒱 (SparseCore.T d) none Set.univ (op := opMsk) (S := allRefs) opMsk_bufs (V := cont4 m d)) $$ [Hb Hheld]
  · isplitl [Hb]; · iexact Hb
    iexact Hheld
  iintro ⟨Hb, Hheld⟩
  rw [wp_ret]; imodintro
  ihave Hh := (Entails.of_eq (show (held (T d) allRefs ((opMsk (F := F)).result (cont4 m d)) : sProp 𝕄)
    = iprop(held (T d) callRefs (cont5 m d) ∗ held (T d) (allRefs \ callRefs) (cont5 m d)) from
      held_sub_split (T d) (show callRefs ⊆ allRefs by decide) (cont5 m d))) $$ Hheld
  icases Hh with ⟨Hcall, Hrest⟩
  ihave Hcall := (Entails.of_eq (call_in m d)) $$ Hcall
  iapply ((K (F := F)).wp_run (D (F := F)) 𝒱 (EH := EH) (P := P m) κ d 0) $$ [Hst Hcall Hb Hrest Hts]
  isplitr; · iexact Hctx
  isplitl [Hst]; · iexact Hst
  isplitl [Hcall]; · iexact Hcall
  iintro ⟨Hst, Hdn⟩
  ihave Hcall := (Entails.of_eq (call_out m d)) $$ Hdn
  ihave Hrest := (Entails.of_eq (rest_kept m d (resAt m d))) $$ Hrest
  ihave Hheld := (Entails.of_eq (held_sub_split (T d) (show callRefs ⊆ allRefs by decide) (cont6 m d)).symm) $$ [Hcall Hrest]
  · isplitl [Hcall]; · iexact Hcall
    iexact Hrest
  iapply (wp_hlo_within 𝒱 (SparseCore.T d) none Set.univ (op := opOut) (S := allRefs) opOut_bufs (V := cont6 m d)) $$ [Hb Hheld]
  · isplitl [Hb]; · iexact Hb
    iexact Hheld
  iintro ⟨Hb, Hheld⟩
  ihave Hh := (Entails.of_eq (show (held (T d) allRefs ((opOut (F := F)).result (cont6 m d)) : sProp 𝕄)
    = iprop(held (T d) endRefs (cont7 m d) ∗ held (T d) (allRefs \ endRefs) (cont7 m d)) from
      held_sub_split (T d) (show endRefs ⊆ allRefs by decide) (cont7 m d))) $$ Hheld
  icases Hh with ⟨Hend, -⟩
  ihave Hend := (Entails.of_eq (held_end m d)) $$ Hend
  rw [wp_ret]; imodintro; imodintro
  isplitl [Hst]; · iexact Hst
  isplitl [Hend]; · iexact Hend
  isplitl [Hb] <;> iassumption

/-! ## The run -/

/-- What a final memory holds on device `d`: the result at `outAt`, the four arguments at their launch contents. -/
def ends (d : Dev nD) (s : (ℓ : Loc nD τ sig) → Buf (Elt F) ℓ) : Prop :=
  s ((SparseCore.T d).loc main_v6) = outAt m d
    ∧ s ((SparseCore.T d).loc main_arg0) = m ((SparseCore.T d).loc main_arg0)
    ∧ s ((SparseCore.T d).loc main_arg1) = m ((SparseCore.T d).loc main_arg1)
    ∧ s ((SparseCore.T d).loc main_arg2) = m ((SparseCore.T d).loc main_arg2)
    ∧ s ((SparseCore.T d).loc main_arg3) = m ((SparseCore.T d).loc main_arg3)

omit [FloatOps F] in
/-- An array held whole is what the final memory holds there. -/
theorem read_off (s : Phys nD τ sig (Elt F)) (ℓ : Loc nD τ sig) (f : Buf (Elt F) ℓ) :
    iprop((ℓ ↦{fullShare} f) ∗ SI s) ⊢ (iprop(⌜s.mem.mem ℓ = f⌝ ∗ SI s) : sProp 𝕄) := by
  iintro ⟨H, HSI⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s : Phys nD τ sig (Elt F)) : iprop(FIN m d ∗ SI s) ⊢ (⌜ends m d s.mem.mem⌝ : sProp 𝕄) := by
  iintro ⟨⟨H0, H1, H2, H3, H4⟩, HSI⟩
  ihave H := (read_off s _ _) $$ [H0 HSI]
  · isplitl [H0] <;> iassumption
  icases H with ⟨%h0, HSI⟩
  ihave H := (read_off s _ _) $$ [H1 HSI]
  · isplitl [H1] <;> iassumption
  icases H with ⟨%h1, HSI⟩
  ihave H := (read_off s _ _) $$ [H2 HSI]
  · isplitl [H2] <;> iassumption
  icases H with ⟨%h2, HSI⟩
  ihave H := (read_off s _ _) $$ [H3 HSI]
  · isplitl [H3] <;> iassumption
  icases H with ⟨%h3, HSI⟩
  ihave H := (read_off s _ _) $$ [H4 HSI]
  · isplitl [H4] <;> iassumption
  icases H with ⟨%h4, -⟩
  ipureintro; exact ⟨h4, h0, h1, h2, h3⟩

/-- Every run's end: `ends` on every device, every semaphore at zero. -/
def QC : PUnit × MemSt nD τ sig (Elt F) → Prop := fun r => (∀ c : Dev nD, ends m c r.2.mem) ∧ r.2.sem = fun _ => 0

/-- From any launch memory whose flat positions are all inside the table, the program runs to its end and leaves `QC`. -/
theorem run_main [∀ e, Nonempty (Elt F e)] (hin : InTable m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hin)
    (fun q _ => match q with | 0 => SparseCore.Cfg.VecSplit.of_plain (vecSplit m))
    m ρ main (fun _ => iprop(emp)) (FIN m) (u₀ (F := F)) (sep_elim_left.trans (hu₀ m)) (hmain m ρ) (fun d s => ends m d s.mem.mem) (hfin m) (QC m)
    (fun _ h hz => ⟨h, hz⟩)

end Cert.Proof.KernelIdealRun

end
-- ==== Proof.Ranges.lean ====
/-
  The precondition read back: where the printed predicate holds, every row number is below 8192 and every column number
  below 512, and then the flat position of an element, row times 512 plus column, computed on 32-bit words, does not wrap
  and lies inside the table.
-/
module

public import proofs.«01_k».proof.Proof.Gen.Pre_ids_in_range
public import Idealize.ShloMosaic.Lib.ReduceAll

@[expose] public section

noncomputable section

namespace Cert.Proof.Ranges

open Idealize.ShloMosaic Cert.Pre_ids_in_range Cert.Pre_ids_in_range.Gen

/-- A word between zero and a small bound as a signed number is below the bound as a natural number. -/
theorem below_of_words (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge] at h0
  rw [IntOp.cmpi_slt] at h1
  simp only [BitVec.toInt_eq_toNat_cond, BitVec.toNat_ofNat] at h0 h1
  omega

instance : Subsingleton S_.Idx := ⟨fun a b => funext fun i => i.elim0⟩

/-- Where the precondition holds, row numbers are below 8192 and column numbers below 512. -/
theorem of_pre {F : FTy → Type} [FloatOps F] (x : FVec F S16x512x512 .f32) (r c : IVec S1600x1 32) (k : IVec S1600x1 1)
    (h : fn x r c k = fun _ => 1#1) (i : S1600x1.Idx) : (r i).toNat < 8192 ∧ (c i).toNat < 512 := by
  have h' := congrFun h (fun a => a.elim0)
  unfold fn at h'
  dsimp only at h'
  obtain ⟨h123, h4⟩ := IntOp.andi_eq_one.1 h'
  obtain ⟨h12, h3⟩ := IntOp.andi_eq_one.1 h123
  obtain ⟨h1, h2⟩ := IntOp.andi_eq_one.1 h12
  exact ⟨below_of_words _ 8192 (by decide) (Host.reduce_andi_all _ _ _ _ _ h1 i) (Host.reduce_andi_all _ _ _ _ _ h2 i),
    below_of_words _ 512 (by decide) (Host.reduce_andi_all _ _ _ _ _ h3 i) (Host.reduce_andi_all _ _ _ _ _ h4 i)⟩

/-- The flat position of a row and a column in range, as a number. -/
theorem toNat_pos {r c : BitVec 32} (hr : r.toNat < 8192) (hc : c.toNat < 512) :
    (r * 512#32 + c).toNat = r.toNat * 512 + c.toNat := by
  rw [BitVec.toNat_add, BitVec.toNat_mul, BitVec.toNat_ofNat]
  omega

end Cert.Proof.Ranges

end
-- ==== Proof.RefValue.lean ====
/-
  The reference's value, element by element. It reads the data as an [8192, 512] array, pairs each row number with its column
  number, reads the array at each pair and puts zero where the mask holds. Where the numbers are in range nothing is wrapped
  or clamped, so the element is the array's at exactly that row and column.
-/
module

public import proofs.«01_k».proof.Proof.Gen.ReferenceIdeal
public import proofs.«01_k».proof.Proof.Ranges
public import Idealize.ShloMosaic.Lib.Pipeline.Value

@[expose] public section

noncomputable section

namespace Cert.Proof.RefValue

open Idealize.ShloMosaic Cert.ReferenceIdeal Cert.ReferenceIdeal.Gen

variable {F : FTy → Type} [FloatOps F]

/-- The numbers with a negative one moved up by `n`, as the reference writes them. -/
abbrev wrapped (n : BitVec 32) (w : IVec S1600x1 32) : IVec S1600x1 32 :=
  select (cmpi .slt w (broadcastInDim S1600x1 ![] bcast_S_S1600x1 (constantI S_ 32 0#32)))
    (addi w (broadcastInDim S1600x1 ![] bcast_S_S1600x1 (constantI S_ 32 n))) w

/-- The row and column numbers side by side. -/
abbrev pairs (r c : IVec S1600x1 32) : IVec S1600x1x2 32 :=
  concatenate S1600x1x2 2 [⟨S1600x1x1, broadcastInDim S1600x1x1 ![0, 1] bcast_S1600x1_S1600x1x1_0_1 r⟩,
    ⟨S1600x1x1, broadcastInDim S1600x1x1 ![0, 1] bcast_S1600x1_S1600x1x1_0_1 c⟩] concatenates_S1600x1x1_S1600x1x1_S1600x1x2_d2

/-- The 1600 elements the reference picks, before they are shaped as [16, 50, 2]. -/
abbrev chosen (x : FVec F S16x512x512 .f32) (r c : IVec S1600x1 32) (k : IVec S1600x1 1) : FVec F S1600x1 .f32 :=
  select k (broadcastInDim S1600x1 ![] bcast_S_S1600x1 (constant S_ .f32 0x00000000#32))
    (Host.gather gather_S8192x512_S1600x1x2_S1600x1_n_01_n_n_01_2_11 (shapeCast S8192x512 x shapeCasts_S16x512x512_S8192x512)
      (pairs (wrapped 8192#32 r) (wrapped 512#32 c)))

/-- The place of the pair's number `b` of element `y`. -/
def pairIx (y : S1600x1.Idx) (b : Fin 2) : S1600x1x2.Idx := fun
  | 0 => (y 0 : Fin 1600)
  | 1 => (y 1 : Fin 1)
  | 2 => b

/-- The place of element `y` in an array with one number for each. -/
def oneIx (y : S1600x1.Idx) : S1600x1x1.Idx := fun
  | 0 => (y 0 : Fin 1600)
  | 1 => (y 1 : Fin 1)
  | 2 => (0 : Fin 1)

/-- An index of the [8192, 512] array. -/
def rowCol (p : Fin 8192) (q : Fin 512) : S8192x512.Idx := fun
  | 0 => p
  | 1 => q

/-- A number that is not negative is left alone. -/
theorem wrapped_apply (n : BitVec 32) (w : IVec S1600x1 32) (y : S1600x1.Idx) (h : (w y).toNat < 2 ^ 31) :
    wrapped n w y = w y := by
  have h0 : ¬ IntOp.cmpi .slt (w y) 0#32 = 1#1 := by
    rw [IntOp.cmpi_slt]
    simp only [BitVec.toInt_eq_toNat_cond, BitVec.toNat_ofNat]
    omega
  exact if_neg h0

/-- The first of a pair is the row number, the second the column number. -/
theorem pairs_fst (r c : IVec S1600x1 32) (y : S1600x1.Idx) : pairs r c (pairIx y 0) = r y := by
  refine (concatenate_pair_apply_left (t := S1600x1x2) (s₁ := S1600x1x1) (s₂ := S1600x1x1) 2 _ _ _ (pairIx y 0) rfl (oneIx y) (fun b => by match b with | 0 => rfl | 1 => rfl | 2 => rfl)).trans (congrArg r (funext fun a => Fin.ext ?_))
  match a with
  | 0 => rfl
  | 1 => exact (Nat.lt_one_iff.1 (y 1).isLt).symm
theorem pairs_snd (r c : IVec S1600x1 32) (y : S1600x1.Idx) : pairs r c (pairIx y 1) = c y := by
  refine (concatenate_pair_apply_right (t := S1600x1x2) (s₁ := S1600x1x1) (s₂ := S1600x1x1) 2 _ _ _ (pairIx y 1) rfl rfl (oneIx y) (fun b hb => by match b with | 0 => rfl | 1 => rfl | 2 => exact absurd rfl hb) rfl).trans
    (congrArg c (funext fun a => Fin.ext ?_))
  match a with
  | 0 => rfl
  | 1 => exact (Nat.lt_one_iff.1 (y 1).isLt).symm

/-- Where in the array the reference's read of element `y` falls on each axis: the pair's number for the axis, kept within the
    axis. -/
theorem coord_zero (idx : IVec S1600x1x2 32) (y : S1600x1.Idx) :
    gather_S8192x512_S1600x1x2_S1600x1_n_01_n_n_01_2_11.start y idx 0 = min (idx (pairIx y 0)).toInt.toNat 8191 := by
  unfold GatherDims.start
  rw [dif_pos (show (0 : Fin 2) ∈ gather_S8192x512_S1600x1x2_S1600x1_n_01_n_n_01_2_11.startIndexMap from
    (by decide : (0 : Fin 2) ∈ ([0, 1] : List (Fin 2))))]
  refine congrArg (fun i => min (idx i).toInt.toNat 8191) (funext fun b => Fin.ext ?_)
  match b with
  | 0 => rfl
  | 1 => rfl
  | 2 => rfl
theorem coord_one (idx : IVec S1600x1x2 32) (y : S1600x1.Idx) :
    gather_S8192x512_S1600x1x2_S1600x1_n_01_n_n_01_2_11.start y idx 1 = min (idx (pairIx y 1)).toInt.toNat 511 := by
  unfold GatherDims.start
  rw [dif_pos (show (1 : Fin 2) ∈ gather_S8192x512_S1600x1x2_S1600x1_n_01_n_n_01_2_11.startIndexMap from
    (by decide : (1 : Fin 2) ∈ ([0, 1] : List (Fin 2))))]
  refine congrArg (fun i => min (idx i).toInt.toNat 511) (funext fun b => Fin.ext ?_)
  match b with
  | 0 => rfl
  | 1 => rfl
  | 2 => rfl

/-- The reference's read of element `y`: the array at the pair's row and column, where the pair is in range. -/
theorem read_apply {α : Type} (x : S8192x512.Idx → α) (idx : IVec S1600x1x2 32) (y : S1600x1.Idx)
    (hr : (idx (pairIx y 0)).toNat < 8192) (hc : (idx (pairIx y 1)).toNat < 512) :
    Host.gather gather_S8192x512_S1600x1x2_S1600x1_n_01_n_n_01_2_11 x idx y
      = x (rowCol ⟨(idx (pairIx y 0)).toNat, hr⟩ ⟨(idx (pairIx y 1)).toNat, hc⟩) := by
  unfold Host.gather
  have small : ∀ (w : BitVec 32) (n : Nat), w.toNat < n → n < 2 ^ 31 → w.toInt.toNat = w.toNat := fun w n h hn => by
    rw [BitVec.toInt_eq_toNat_cond]; omega
  refine congrArg x (funext fun a => Fin.ext ?_)
  have hk : ∀ a : Fin 2, a ∉ gather_S8192x512_S1600x1x2_S1600x1_n_01_n_n_01_2_11.sKept := fun a h =>
    ((GatherDims.mem_sKept _ _).1 h).1 (show a ∈ ([0, 1] : List (Fin 2)) by revert a; decide)
  show GatherDims.start _ y idx a + GatherDims.batchCoord _ y a + GatherDims.offCoord _ y a = _
  rw [GatherDims.batchCoord_eq_zero _ _ _ List.not_mem_nil, GatherDims.offCoord_eq_zero _ _ _ (hk a)]
  match a with
  | 0 => rw [coord_zero, small _ 8192 hr (by decide)]; show min _ 8191 + 0 + 0 = (idx (pairIx y 0)).toNat; omega
  | 1 => rw [coord_one, small _ 512 hc (by decide)]; show min _ 511 + 0 + 0 = (idx (pairIx y 1)).toNat; omega

/-- The reference's element `y`, where its row and column number are in range: zero where the mask holds, elsewhere the data, as
    [8192, 512], at that row and column. -/
theorem chosen_apply (x : FVec F S16x512x512 .f32) (r c : IVec S1600x1 32) (k : IVec S1600x1 1) (y : S1600x1.Idx)
    (hr : (r y).toNat < 8192) (hc : (c y).toNat < 512) :
    chosen x r c k y = if k y = 1 then FloatOps.ofBits .f32 0x00000000#32
      else shapeCast S8192x512 x shapeCasts_S16x512x512_S8192x512 (rowCol ⟨(r y).toNat, hr⟩ ⟨(c y).toNat, hc⟩) := by
  have e0 : pairs (wrapped 8192#32 r) (wrapped 512#32 c) (pairIx y 0) = r y :=
    (pairs_fst _ _ y).trans (wrapped_apply _ r y (by omega))
  have e1 : pairs (wrapped 8192#32 r) (wrapped 512#32 c) (pairIx y 1) = c y :=
    (pairs_snd _ _ y).trans (wrapped_apply _ c y (by omega))
  have e := read_apply (shapeCast S8192x512 x shapeCasts_S16x512x512_S8192x512) (pairs (wrapped 8192#32 r) (wrapped 512#32 c)) y
    (by rw [e0]; exact hr) (by rw [e1]; exact hc)
  have e' : rowCol ⟨(pairs (wrapped 8192#32 r) (wrapped 512#32 c) (pairIx y 0)).toNat, by rw [e0]; exact hr⟩
      ⟨(pairs (wrapped 8192#32 r) (wrapped 512#32 c) (pairIx y 1)).toNat, by rw [e1]; exact hc⟩
      = rowCol ⟨(r y).toNat, hr⟩ ⟨(c y).toNat, hc⟩ :=
    congrArg₂ rowCol (Fin.ext (congrArg BitVec.toNat e0)) (Fin.ext (congrArg BitVec.toNat e1))
  rw [e'] at e
  exact congrArg (fun v => if k y = 1 then FloatOps.ofBits .f32 0x00000000#32 else v) e

end Cert.Proof.RefValue

end
-- ==== Proof.Agree.lean ====
/-
  The kernel's value is the reference's: element by element, the kernel's choice from the flat table at row times 512 plus
  column is the reference's choice from the [8192, 512] array at that row and column.
-/
module

public import proofs.«01_k».proof.Proof.KernelIdealRun
public import proofs.«01_k».proof.Proof.RefValue

@[expose] public section

noncomputable section

namespace Cert.Proof.Agree

open Idealize.ShloMosaic Cert.KernelIdeal Cert.KernelIdeal.Gen Cert.Proof.KernelIdealRun
open Cert.Proof.RefValue (rowCol chosen chosen_apply)

variable {F : FTy → Type} [FloatOps F]

/-- Element `n` of the 1600 in a flat array, and in an array of 1600 rows of one. -/
def flatIx (n : Fin 1600) : S1600.Idx := fun | 0 => n
def colIx (n : Fin 1600) : S1600x1.Idx := fun
  | 0 => n
  | 1 => (0 : Fin 1)

/-- Row `p`, column `q` of the [8192, 512] array as a place in the data. -/
def cellIx (p : Fin 8192) (q : Fin 512) : S16x512x512.Idx := fun
  | 0 => (⟨p.val / 512, by omega⟩ : Fin 16)
  | 1 => (⟨p.val % 512, by omega⟩ : Fin 512)
  | 2 => q

/-- The flat array's element `n` is the column's element `n`. -/
theorem flat_apply {α : Type} (x : S1600x1.Idx → α) (n : Fin 1600) : shapeCast S1600 x shapeCasts_S1600x1_S1600 (flatIx n) = x (colIx n) :=
  shapeCast_apply x _ _ _ (by
    rw [Shape.rowMajor_val_one, Shape.rowMajor_val_two]
    show n.val * 1 + 0 = n.val
    omega)

/-- The array of 8192 rows at row `p`, column `q`. -/
theorem cell_apply {α : Type} (x : S16x512x512.Idx → α) (p : Fin 8192) (q : Fin 512) :
    shapeCast Cert.ReferenceIdeal.S8192x512 x Cert.ReferenceIdeal.Gen.facts.shapeCasts_S16x512x512_S8192x512 (rowCol p q) = x (cellIx p q) :=
  shapeCast_apply x _ _ _ (by
    rw [Shape.rowMajor_val_three, Shape.rowMajor_val_two]
    show (p.val / 512 * 512 + p.val % 512) * 512 + q.val = p.val * 512 + q.val
    omega)

/-- The flat table at the position of row `p`, column `q`. -/
theorem table_apply {α : Type} (x : S16x512x512.Idx → α) (w : BitVec 32) (p : Fin 8192) (q : Fin 512) (hw : w.toNat = p.val * 512 + q.val) :
    shapeCast S4194304 x shapeCasts_S16x512x512_S4194304 (tabIx w) = x (cellIx p q) :=
  shapeCast_apply x _ _ _ (by
    rw [Shape.rowMajor_val_three, Shape.rowMajor_val_one]
    show (p.val / 512 * 512 + p.val % 512) * 512 + q.val = w.toNat % 4194304
    omega)

/-- Element by element the kernel's choice is the reference's. -/
theorem picked_eq (x : S16x512x512.Idx → F .f32) (r c : S1600x1.Idx → BitVec 32) (k : S1600x1.Idx → BitVec 1)
    (h : ∀ i, (r i).toNat < 8192 ∧ (c i).toNat < 512) (n : Fin 1600) :
    picked (shapeCast S4194304 x shapeCasts_S16x512x512_S4194304) (shapeCast S1600 r shapeCasts_S1600x1_S1600)
        (shapeCast S1600 c shapeCasts_S1600x1_S1600) (extui 32 (shapeCast S1600 k shapeCasts_S1600x1_S1600) natLt_1_32) (flatIx n)
      = chosen x r c k (colIx n) := by
  obtain ⟨hr, hc⟩ := h (colIx n)
  rw [chosen_apply x r c k (colIx n) hr hc, cell_apply]
  unfold picked
  rw [flat_apply r, flat_apply c, table_apply x (posWord (r (colIx n)) (c (colIx n))) ⟨_, hr⟩ ⟨_, hc⟩ (Ranges.toNat_pos hr hc)]
  have hk : extui 32 (shapeCast S1600 k shapeCasts_S1600x1_S1600) natLt_1_32 (flatIx n) = (k (colIx n)).setWidth 32 :=
    congrArg (BitVec.setWidth 32) (flat_apply k n)
  rw [hk]
  generalize k (colIx n) = b
  have hb : b = 0#1 ∨ b = 1#1 := by revert b; decide
  rcases hb with rfl | rfl
  · rw [if_pos (by decide), if_neg (by decide)]
  · rw [if_neg (by decide), if_pos (by decide)]

/-- Shaped as [16, 50, 2] the two are equal. -/
theorem shaped_eq (x : S16x512x512.Idx → F .f32) (r c : S1600x1.Idx → BitVec 32) (k : S1600x1.Idx → BitVec 1)
    (h : ∀ i, (r i).toNat < 8192 ∧ (c i).toNat < 512) :
    shapeCast S16x50x2 (picked (shapeCast S4194304 x shapeCasts_S16x512x512_S4194304) (shapeCast S1600 r shapeCasts_S1600x1_S1600)
        (shapeCast S1600 c shapeCasts_S1600x1_S1600) (extui 32 (shapeCast S1600 k shapeCasts_S1600x1_S1600) natLt_1_32)) shapeCasts_S1600_S16x50x2
      = shapeCast S16x50x2 (chosen x r c k) Cert.ReferenceIdeal.Gen.facts.shapeCasts_S1600x1_S16x50x2 := by
  funext j
  let n : Fin 1600 := (S16x50x2.rowMajor j).cast (by decide)
  refine (shapeCast_apply _ _ j (flatIx n) ?_).trans ((picked_eq x r c k h n).trans (shapeCast_apply _ _ j (colIx n) ?_).symm)
  · rw [Shape.rowMajor_val_one]; rfl
  · rw [Shape.rowMajor_val_two]
    show n.val * 1 + 0 = (S16x50x2.rowMajor j).val
    rw [Nat.mul_one]; rfl

end Cert.Proof.Agree

end
-- ==== Proof.lean ====
/-
  The proof of `Cert.Claim` (Defs.lean): the five claims, each from the whole run of the program it is about
  (`KernelRun.run_main`, `KernelIdealRun.run_main`, the reference's generated `Value.run`). The kernel's runs ask that every flat
  position lie inside the table, which the precondition gives (`Ranges.of_pre`); the value claim is `Agree.shaped_eq`.
-/
module

public import proofs.«01_k».proof.Defs
public import proofs.«01_k».proof.Proof.KernelRun
public import proofs.«01_k».proof.Proof.KernelIdealRun
public import proofs.«01_k».proof.Proof.Agree
public import proofs.«01_k».proof.Proof.Gen.ReferenceIdeal.Run

@[expose] public section

noncomputable section

namespace Cert.Proof

open Idealize.ShloMosaic Idealize.SL.Sem

/-- Row and column numbers in range put every flat position inside the table. -/
theorem pos_in_table {r c : BitVec 32} (h : r.toNat < 8192 ∧ c.toNat < 512) : (r * 512#32 + c).toNat < 4194304 := by
  rw [Ranges.toNat_pos h.1 h.2]
  omega

/-- Under the precondition the kernel reads inside the table: as compiled, -/
theorem inTable_kernel (m : (ℓ : Loc Cert.Kernel.nD Cert.Kernel.τ Cert.Kernel.sig) → Buf (Elt Bits) ℓ)
    (h : Cert.Pre_Kernel m) : KernelRun.InTable m :=
  fun d _ => pos_in_table (Ranges.of_pre _ _ _ _ (h d) _)

/-- and over the extended reals. -/
theorem inTable_ideal (m : (ℓ : Loc Cert.KernelIdeal.nD Cert.KernelIdeal.τ Cert.KernelIdeal.sig) → Buf (Elt Ideal) ℓ)
    (h : Cert.Pre_KernelIdeal m) : KernelIdealRun.InTable m :=
  fun d _ => pos_in_table (Ranges.of_pre _ _ _ _ (h d) _)

/-- The kernel runs, leaves its arguments as they were and every semaphore at zero: as compiled, -/
theorem frame_kernel : Cert.quiescent_Kernel := fun m g h =>
  (θ_run Cert.Kernel.defs _ _).mono (fun _ e => ⟨fun c => (e.1 c).2, e.2⟩) (KernelRun.run_main (F := Bits) m g (inTable_kernel m h))

/-- and over the extended reals. -/
theorem frame_ideal : Cert.quiescent_KernelIdeal := fun m g h =>
  (θ_run Cert.KernelIdeal.defs _ _).mono (fun _ e => ⟨fun c => (e.1 c).2, e.2⟩) (KernelIdealRun.run_main (F := Ideal) m g (inTable_ideal m h))

/-- The reference runs and leaves its arguments as they were; it has no semaphore. -/
theorem frame_reference : Cert.quiescent_ReferenceIdeal := fun m g _ =>
  (θ_run Cert.ReferenceIdeal.defs _ _).mono (fun r e => ⟨fun c => (e c).2, sem_eq_zero_of_no_sems (by decide) r.2⟩)
    (Cert.ReferenceIdeal.Value.run (F := Ideal) m g)

/-- From equal arguments with the numbers in range, the kernel and the reference end with equal results. -/
theorem values_agree : Cert.algebraic_KernelIdeal_ReferenceIdeal := by
  intro m g m' g' h hagree
  refine ⟨fun c => KernelIdealRun.outAt m c,
    (θ_run Cert.KernelIdeal.defs _ _).mono (fun _ e c => e.1 c) (KernelIdealRun.run_main (F := Ideal) m g (inTable_ideal m h)),
    (θ_run Cert.ReferenceIdeal.defs _ _).mono (fun _ e c => ⟨(e c).1.trans ?_, (e c).2⟩) (Cert.ReferenceIdeal.Value.run (F := Ideal) m' g')⟩
  obtain ⟨e0, e1, e2, e3⟩ := hagree c
  rw [e0, e1, e2, e3]
  exact (Agree.shaped_eq _ _ _ _ (Ranges.of_pre _ _ _ _ (h c))).symm

theorem claim : Cert.Claim :=
  ⟨Cert.Kernel.Gen.facts, Cert.KernelIdeal.Gen.facts, Cert.ReferenceIdeal.Gen.facts, Cert.Pre_ids_in_range.Gen.facts,
    frame_kernel, frame_ideal, frame_reference, trivial, values_agree⟩

end Cert.Proof

end
